-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S5000x4 : Shape := ⟨2, ![5000, 4]⟩
abbrev S5000 : Shape := ⟨1, ![5000]⟩
abbrev S5000x1 : Shape := ⟨2, ![5000, 1]⟩
abbrev S_ : Shape := ⟨0, ![]⟩
abbrev S5000x10 : Shape := ⟨2, ![5000, 10]⟩
abbrev S5000x16 : Shape := ⟨2, ![5000, 16]⟩
abbrev S120x16 : Shape := ⟨2, ![120, 16]⟩
abbrev S5120x16 : Shape := ⟨2, ![5120, 16]⟩
abbrev S120 : Shape := ⟨1, ![120]⟩
abbrev S5120 : Shape := ⟨1, ![5120]⟩
abbrev S160 : Shape := ⟨1, ![160]⟩
abbrev S160x16 : Shape := ⟨2, ![160, 16]⟩
abbrev S80x16 : Shape := ⟨2, ![80, 16]⟩
abbrev S80 : Shape := ⟨1, ![80]⟩
abbrev S5120x8 : Shape := ⟨2, ![5120, 8]⟩
abbrev S10x512x8 : Shape := ⟨3, ![10, 512, 8]⟩
abbrev S10x8x512 : Shape := ⟨3, ![10, 8, 512]⟩
abbrev S10x1x512 : Shape := ⟨3, ![10, 1, 512]⟩
abbrev S512x512 : Shape := ⟨2, ![512, 512]⟩
abbrev S1x512x8 : Shape := ⟨3, ![1, 512, 8]⟩
abbrev S512x8 : Shape := ⟨2, ![512, 8]⟩
abbrev S512x1 : Shape := ⟨2, ![512, 1]⟩
abbrev S1x8x512 : Shape := ⟨3, ![1, 8, 512]⟩
abbrev S8x512 : Shape := ⟨2, ![8, 512]⟩
abbrev S1x512 : Shape := ⟨2, ![1, 512]⟩
abbrev S1x1x512 : Shape := ⟨3, ![1, 1, 512]⟩
abbrev S1 : Shape := ⟨1, ![1]⟩
abbrev S1x1x1 : Shape := ⟨3, ![1, 1, 1]⟩
abbrev S5000x5 : Shape := ⟨2, ![5000, 5]⟩

abbrev nBuf : Table → Nat
  | .hbm => 46
  | .local .tc .vmem => 3
  | .local .scVector .vmem => 2
  | _ => 0

abbrev bufTy : (tb : Table) → Fin (nBuf tb) → BufTy
  | .hbm, ⟨0, _⟩ => ⟨S5000x4, .f32⟩
  | .hbm, ⟨1, _⟩ => ⟨S5000, .f32⟩
  | .hbm, ⟨2, _⟩ => ⟨S5000, .f32⟩
  | .hbm, ⟨3, _⟩ => ⟨S5000, .i32⟩
  | .hbm, ⟨4, _⟩ => ⟨S5000, .f32⟩
  | .hbm, ⟨5, _⟩ => ⟨S5000, .i32⟩
  | .hbm, ⟨6, _⟩ => ⟨S5000x1, .f32⟩
  | .hbm, ⟨7, _⟩ => ⟨S5000, .f32⟩
  | .hbm, ⟨8, _⟩ => ⟨S5000x1, .f32⟩
  | .hbm, ⟨9, _⟩ => ⟨S5000, .f32⟩
  | .hbm, ⟨10, _⟩ => ⟨S5000, .f32⟩
  | .hbm, ⟨11, _⟩ => ⟨S5000x1, .f32⟩
  | .hbm, ⟨12, _⟩ => ⟨S5000, .f32⟩
  | .hbm, ⟨13, _⟩ => ⟨S5000x1, .f32⟩
  | .hbm, ⟨14, _⟩ => ⟨S5000, .f32⟩
  | .hbm, ⟨15, _⟩ => ⟨S5000, .f32⟩
  | .hbm, ⟨16, _⟩ => ⟨S5000, .f32⟩
  | .hbm, ⟨17, _⟩ => ⟨S5000x1, .f32⟩
  | .hbm, ⟨18, _⟩ => ⟨S5000x1, .f32⟩
  | .hbm, ⟨19, _⟩ => ⟨S_, .f32⟩
  | .hbm, ⟨20, _⟩ => ⟨S5000x10, .f32⟩
  | .hbm, ⟨21, _⟩ => ⟨S5000x16, .f32⟩
  | .hbm, ⟨22, _⟩ => ⟨S_, .f32⟩
  | .hbm, ⟨23, _⟩ => ⟨S120x16, .f32⟩
  | .hbm, ⟨24, _⟩ => ⟨S5120x16, .f32⟩
  | .hbm, ⟨25, _⟩ => ⟨S120, .i32⟩
  | .hbm, ⟨26, _⟩ => ⟨S_, .i32⟩
  | .hbm, ⟨27, _⟩ => ⟨S120, .i32⟩
  | .hbm, ⟨28, _⟩ => ⟨S120, .i32⟩
  | .hbm, ⟨29, _⟩ => ⟨S5120, .i32⟩
  | .hbm, ⟨30, _⟩ => ⟨S5120x16, .f32⟩
  | .hbm, ⟨31, _⟩ => ⟨S5000x4, .f32⟩
  | .hbm, ⟨32, _⟩ => ⟨S5000x1, .f32⟩
  | .hbm, ⟨33, _⟩ => ⟨S5000, .f32⟩
  | .hbm, ⟨34, _⟩ => ⟨S5120x8, .f32⟩
  | .hbm, ⟨35, _⟩ => ⟨S10x512x8, .f32⟩
  | .hbm, ⟨36, _⟩ => ⟨S10x8x512, .f32⟩
  | .hbm, ⟨37, _⟩ => ⟨S10x1x512, .f32⟩
  | .hbm, ⟨38, _⟩ => ⟨S5120, .f32⟩
  | .hbm, ⟨39, _⟩ => ⟨S5000, .f32⟩
  | .hbm, ⟨40, _⟩ => ⟨S5000x1, .f32⟩
  | .hbm, ⟨41, _⟩ => ⟨S5000x4, .f32⟩
  | .hbm, ⟨42, _⟩ => ⟨S5000x4, .f32⟩
  | .hbm, ⟨43, _⟩ => ⟨S5000, .f32⟩
  | .hbm, ⟨44, _⟩ => ⟨S5000x1, .f32⟩
  | .hbm, ⟨45, _⟩ => ⟨S5000x5, .f32⟩
  | .local .tc .vmem, ⟨0, _⟩ => ⟨S10x512x8, .f32⟩
  | .local .tc .vmem, ⟨1, _⟩ => ⟨S10x8x512, .f32⟩
  | .local .tc .vmem, ⟨2, _⟩ => ⟨S10x1x512, .f32⟩
  | .local .scVector .vmem, ⟨0, _⟩ => ⟨S160, .i32⟩
  | .local .scVector .vmem, ⟨1, _⟩ => ⟨S160x16, .f32⟩
  | _, _ => ⟨S5000x4, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v18_scv : Ref sig .scVector := ⟨.hbm, 24, rfl⟩
abbrev main_v22_scv : Ref sig .scVector := ⟨.hbm, 29, rfl⟩
abbrev main_v23_scv : Ref sig .scVector := ⟨.hbm, 30, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c0_i32_18_r1 : BitVec 32 := 0#32
  ![v2.toNat, 0]
abbrev grid1 : Pipeline.Grid := .none

@[reducible] def k1_t1_loop : Scf.Loop 32 :=
  let c0_i32 : BitVec 32 := 0#32
  let c10_i32 : BitVec 32 := 10#32
  let v7 : BitVec 32 := Scalar.addi c0_i32 c10_i32
  let c1_i32 : BitVec 32 := 1#32
  ⟨c0_i32, v7, c1_i32⟩
def k1_off1 (k1_t1 : Fin k1_t1_loop.trips) : Fin 3 → Nat :=
  let c0_i32 : BitVec 32 := 0#32
  let c1_i32 : BitVec 32 := 1#32
  let arg3 : BitVec 32 := Scf.iv c0_i32 c1_i32 k1_t1
  let v9 : Index := Scalar.indexCast arg3
  let c0_7 : Index := 0#32
  let c0_8 : Index := 0#32
  ![v9.toNat, 0, 0]
def k1_off2 (k1_t1 : Fin k1_t1_loop.trips) : Fin 3 → Nat :=
  let c0_i32 : BitVec 32 := 0#32
  let c1_i32 : BitVec 32 := 1#32
  let arg3 : BitVec 32 := Scf.iv c0_i32 c1_i32 k1_t1
  let v27 : Index := Scalar.indexCast arg3
  let c0_9 : Index := 0#32
  let c0_10 : Index := 0#32
  ![v27.toNat, 0, 0]
def k1_off3 (k1_t1 : Fin k1_t1_loop.trips) : Fin 3 → Nat :=
  let c0_i32 : BitVec 32 := 0#32
  let c1_i32 : BitVec 32 := 1#32
  let arg3 : BitVec 32 := Scf.iv c0_i32 c1_i32 k1_t1
  let v61 : Index := Scalar.indexCast arg3
  let c0_15 : Index := 0#32
  let c0_16 : Index := 0#32
  ![v61.toNat, 0, 0]
@[reducible] def k1_t2_loop (k1_t1 : Fin k1_t1_loop.trips) : Scf.Loop 32 :=
  let c0_i32_26 : BitVec 32 := 0#32
  let c9_i32 : BitVec 32 := 9#32
  let c0_i32 : BitVec 32 := 0#32
  let c1_i32 : BitVec 32 := 1#32
  let arg3 : BitVec 32 := Scf.iv c0_i32 c1_i32 k1_t1
  let v69 : BitVec 32 := Scalar.subi c9_i32 arg3
  let c0_i32_19 : BitVec 32 := 0#32
  let v71 : BitVec 1 := Scalar.cmpi .sgt v69 c0_i32_19
  let v72 : BitVec 32 := Scalar.extui v71
  let c0_i32_20 : BitVec 32 := 0#32
  let v73 : BitVec 1 := Scalar.cmpi .slt v69 c0_i32_20
  let v74 : BitVec 32 := Scalar.extui v73
  let v75 : BitVec 32 := Scalar.subi v72 v74
  let c4_i32 : BitVec 32 := 4#32
  let c0_i32_21 : BitVec 32 := 0#32
  let v76 : BitVec 1 := Scalar.cmpi .sgt c4_i32 c0_i32_21
  let v77 : BitVec 32 := Scalar.extui v76
  let c0_i32_22 : BitVec 32 := 0#32
  let v78 : BitVec 1 := Scalar.cmpi .slt c4_i32 c0_i32_22
  let v79 : BitVec 32 := Scalar.extui v78
  let v80 : BitVec 32 := Scalar.subi v77 v79
  let v81 : BitVec 1 := Scalar.cmpi .ne v75 v80
  let v82 : BitVec 32 := Scalar.remsi v69 c4_i32
  let c0_i32_23 : BitVec 32 := 0#32
  let v83 : BitVec 1 := Scalar.cmpi .ne v82 c0_i32_23
  let v84 : BitVec 1 := Scalar.andi v81 v83
  let v70 : BitVec 32 := Scalar.divsi v69 c4_i32
  let c1_i32_24 : BitVec 32 := 1#32
  let v85 : BitVec 32 := Scalar.subi v70 c1_i32_24
  let v86 : BitVec 32 := Scalar.select v84 v85 v70
  let v87 : BitVec 32 := Scalar.subi v86 c0_i32_26
  let c1_i32_27 : BitVec 32 := 1#32
  let v89 : BitVec 32 := Scalar.divsi v87 c1_i32_27
  let v90 : BitVec 32 := Scalar.muli v89 c1_i32_27
  let v91 : BitVec 32 := Scalar.addi c0_i32_26 v90
  let c1_i32_28 : BitVec 32 := 1#32
  ⟨c0_i32_26, v91, c1_i32_28⟩
def k1_off4 (k1_t1 : Fin k1_t1_loop.trips) (k1_t2 : Fin (k1_t2_loop k1_t1).trips) (c0_i32_39 : BitVec 32) : Fin 3 → Nat :=
  let c0_i32 : BitVec 32 := 0#32
  let c1_i32 : BitVec 32 := 1#32
  let arg3 : BitVec 32 := Scf.iv c0_i32 c1_i32 k1_t1
  let c1_i32_37 : BitVec 32 := 1#32
  let v100 : BitVec 32 := Scalar.addi arg3 c1_i32_37
  let c4_i32_38 : BitVec 32 := 4#32
  let c0_i32_26 : BitVec 32 := 0#32
  let c1_i32_28 : BitVec 32 := 1#32
  let arg4 : BitVec 32 := Scf.iv c0_i32_26 c1_i32_28 k1_t2
  let v101 : BitVec 32 := Scalar.muli c4_i32_38 arg4
  let v102 : BitVec 32 := Scalar.addi v100 v101
  let v103 : BitVec 32 := Scalar.addi v102 c0_i32_39
  let v104 : Index := Scalar.indexCast v103
  let c0_40 : Index := 0#32
  let c0_41 : Index := 0#32
  ![v104.toNat, 0, 0]
def k1_off5 (k1_t1 : Fin k1_t1_loop.trips) (k1_t2 : Fin (k1_t2_loop k1_t1).trips) (c0_i32_39 : BitVec 32) : Fin 3 → Nat :=
  let c0_i32 : BitVec 32 := 0#32
  let c1_i32 : BitVec 32 := 1#32
  let arg3 : BitVec 32 := Scf.iv c0_i32 c1_i32 k1_t1
  let c1_i32_37 : BitVec 32 := 1#32
  let v100 : BitVec 32 := Scalar.addi arg3 c1_i32_37
  let c4_i32_38 : BitVec 32 := 4#32
  let c0_i32_26 : BitVec 32 := 0#32
  let c1_i32_28 : BitVec 32 := 1#32
  let arg4 : BitVec 32 := Scf.iv c0_i32_26 c1_i32_28 k1_t2
  let v101 : BitVec 32 := Scalar.muli c4_i32_38 arg4
  let v102 : BitVec 32 := Scalar.addi v100 v101
  let v103 : BitVec 32 := Scalar.addi v102 c0_i32_39
  let v138 : Index := Scalar.indexCast v103
  let c0_47 : Index := 0#32
  let c0_48 : Index := 0#32
  ![v138.toNat, 0, 0]
@[reducible] def k1_t3_loop (k1_t1 : Fin k1_t1_loop.trips) : Scf.Loop 32 :=
  let c0_i32_26 : BitVec 32 := 0#32
  let c9_i32 : BitVec 32 := 9#32
  let c0_i32 : BitVec 32 := 0#32
  let c1_i32 : BitVec 32 := 1#32
  let arg3 : BitVec 32 := Scf.iv c0_i32 c1_i32 k1_t1
  let v69 : BitVec 32 := Scalar.subi c9_i32 arg3
  let c0_i32_19 : BitVec 32 := 0#32
  let v71 : BitVec 1 := Scalar.cmpi .sgt v69 c0_i32_19
  let v72 : BitVec 32 := Scalar.extui v71
  let c0_i32_20 : BitVec 32 := 0#32
  let v73 : BitVec 1 := Scalar.cmpi .slt v69 c0_i32_20
  let v74 : BitVec 32 := Scalar.extui v73
  let v75 : BitVec 32 := Scalar.subi v72 v74
  let c4_i32 : BitVec 32 := 4#32
  let c0_i32_21 : BitVec 32 := 0#32
  let v76 : BitVec 1 := Scalar.cmpi .sgt c4_i32 c0_i32_21
  let v77 : BitVec 32 := Scalar.extui v76
  let c0_i32_22 : BitVec 32 := 0#32
  let v78 : BitVec 1 := Scalar.cmpi .slt c4_i32 c0_i32_22
  let v79 : BitVec 32 := Scalar.extui v78
  let v80 : BitVec 32 := Scalar.subi v77 v79
  let v81 : BitVec 1 := Scalar.cmpi .ne v75 v80
  let v82 : BitVec 32 := Scalar.remsi v69 c4_i32
  let c0_i32_23 : BitVec 32 := 0#32
  let v83 : BitVec 1 := Scalar.cmpi .ne v82 c0_i32_23
  let v84 : BitVec 1 := Scalar.andi v81 v83
  let v70 : BitVec 32 := Scalar.divsi v69 c4_i32
  let c1_i32_24 : BitVec 32 := 1#32
  let v85 : BitVec 32 := Scalar.subi v70 c1_i32_24
  let v86 : BitVec 32 := Scalar.select v84 v85 v70
  let v87 : BitVec 32 := Scalar.subi v86 c0_i32_26
  let c1_i32_27 : BitVec 32 := 1#32
  let v89 : BitVec 32 := Scalar.divsi v87 c1_i32_27
  let v90 : BitVec 32 := Scalar.muli v89 c1_i32_27
  let v91 : BitVec 32 := Scalar.addi c0_i32_26 v90
  let v88 : BitVec 32 := Scalar.addi c0_i32_26 v87
  let c1_i32_29 : BitVec 32 := 1#32
  ⟨v91, v88, c1_i32_29⟩
def k1_off6 (k1_t1 : Fin k1_t1_loop.trips) (k1_t3 : Fin (k1_t3_loop k1_t1).trips) (c0_i32_39 : BitVec 32) : Fin 3 → Nat :=
  let c0_i32 : BitVec 32 := 0#32
  let c1_i32 : BitVec 32 := 1#32
  let arg3 : BitVec 32 := Scf.iv c0_i32 c1_i32 k1_t1
  let c1_i32_37 : BitVec 32 := 1#32
  let v100 : BitVec 32 := Scalar.addi arg3 c1_i32_37
  let c4_i32_38 : BitVec 32 := 4#32
  let c0_i32_26 : BitVec 32 := 0#32
  let c9_i32 : BitVec 32 := 9#32
  let v69 : BitVec 32 := Scalar.subi c9_i32 arg3
  let c0_i32_19 : BitVec 32 := 0#32
  let v71 : BitVec 1 := Scalar.cmpi .sgt v69 c0_i32_19
  let v72 : BitVec 32 := Scalar.extui v71
  let c0_i32_20 : BitVec 32 := 0#32
  let v73 : BitVec 1 := Scalar.cmpi .slt v69 c0_i32_20
  let v74 : BitVec 32 := Scalar.extui v73
  let v75 : BitVec 32 := Scalar.subi v72 v74
  let c4_i32 : BitVec 32 := 4#32
  let c0_i32_21 : BitVec 32 := 0#32
  let v76 : BitVec 1 := Scalar.cmpi .sgt c4_i32 c0_i32_21
  let v77 : BitVec 32 := Scalar.extui v76
  let c0_i32_22 : BitVec 32 := 0#32
  let v78 : BitVec 1 := Scalar.cmpi .slt c4_i32 c0_i32_22
  let v79 : BitVec 32 := Scalar.extui v78
  let v80 : BitVec 32 := Scalar.subi v77 v79
  let v81 : BitVec 1 := Scalar.cmpi .ne v75 v80
  let v82 : BitVec 32 := Scalar.remsi v69 c4_i32
  let c0_i32_23 : BitVec 32 := 0#32
  let v83 : BitVec 1 := Scalar.cmpi .ne v82 c0_i32_23
  let v84 : BitVec 1 := Scalar.andi v81 v83
  let v70 : BitVec 32 := Scalar.divsi v69 c4_i32
  let c1_i32_24 : BitVec 32 := 1#32
  let v85 : BitVec 32 := Scalar.subi v70 c1_i32_24
  let v86 : BitVec 32 := Scalar.select v84 v85 v70
  let v87 : BitVec 32 := Scalar.subi v86 c0_i32_26
  let c1_i32_27 : BitVec 32 := 1#32
  let v89 : BitVec 32 := Scalar.divsi v87 c1_i32_27
  let v90 : BitVec 32 := Scalar.muli v89 c1_i32_27
  let v91 : BitVec 32 := Scalar.addi c0_i32_26 v90
  let c1_i32_29 : BitVec 32 := 1#32
  let arg4 : BitVec 32 := Scf.iv v91 c1_i32_29 k1_t3
  let v101 : BitVec 32 := Scalar.muli c4_i32_38 arg4
  let v102 : BitVec 32 := Scalar.addi v100 v101
  let v103 : BitVec 32 := Scalar.addi v102 c0_i32_39
  let v104 : Index := Scalar.indexCast v103
  let c0_40 : Index := 0#32
  let c0_41 : Index := 0#32
  ![v104.toNat, 0, 0]
def k1_off7 (k1_t1 : Fin k1_t1_loop.trips) (k1_t3 : Fin (k1_t3_loop k1_t1).trips) (c0_i32_39 : BitVec 32) : Fin 3 → Nat :=
  let c0_i32 : BitVec 32 := 0#32
  let c1_i32 : BitVec 32 := 1#32
  let arg3 : BitVec 32 := Scf.iv c0_i32 c1_i32 k1_t1
  let c1_i32_37 : BitVec 32 := 1#32
  let v100 : BitVec 32 := Scalar.addi arg3 c1_i32_37
  let c4_i32_38 : BitVec 32 := 4#32
  let c0_i32_26 : BitVec 32 := 0#32
  let c9_i32 : BitVec 32 := 9#32
  let v69 : BitVec 32 := Scalar.subi c9_i32 arg3
  let c0_i32_19 : BitVec 32 := 0#32
  let v71 : BitVec 1 := Scalar.cmpi .sgt v69 c0_i32_19
  let v72 : BitVec 32 := Scalar.extui v71
  let c0_i32_20 : BitVec 32 := 0#32
  let v73 : BitVec 1 := Scalar.cmpi .slt v69 c0_i32_20
  let v74 : BitVec 32 := Scalar.extui v73
  let v75 : BitVec 32 := Scalar.subi v72 v74
  let c4_i32 : BitVec 32 := 4#32
  let c0_i32_21 : BitVec 32 := 0#32
  let v76 : BitVec 1 := Scalar.cmpi .sgt c4_i32 c0_i32_21
  let v77 : BitVec 32 := Scalar.extui v76
  let c0_i32_22 : BitVec 32 := 0#32
  let v78 : BitVec 1 := Scalar.cmpi .slt c4_i32 c0_i32_22
  let v79 : BitVec 32 := Scalar.extui v78
  let v80 : BitVec 32 := Scalar.subi v77 v79
  let v81 : BitVec 1 := Scalar.cmpi .ne v75 v80
  let v82 : BitVec 32 := Scalar.remsi v69 c4_i32
  let c0_i32_23 : BitVec 32 := 0#32
  let v83 : BitVec 1 := Scalar.cmpi .ne v82 c0_i32_23
  let v84 : BitVec 1 := Scalar.andi v81 v83
  let v70 : BitVec 32 := Scalar.divsi v69 c4_i32
  let c1_i32_24 : BitVec 32 := 1#32
  let v85 : BitVec 32 := Scalar.subi v70 c1_i32_24
  let v86 : BitVec 32 := Scalar.select v84 v85 v70
  let v87 : BitVec 32 := Scalar.subi v86 c0_i32_26
  let c1_i32_27 : BitVec 32 := 1#32
  let v89 : BitVec 32 := Scalar.divsi v87 c1_i32_27
  let v90 : BitVec 32 := Scalar.muli v89 c1_i32_27
  let v91 : BitVec 32 := Scalar.addi c0_i32_26 v90
  let c1_i32_29 : BitVec 32 := 1#32
  let arg4 : BitVec 32 := Scf.iv v91 c1_i32_29 k1_t3
  let v101 : BitVec 32 := Scalar.muli c4_i32_38 arg4
  let v102 : BitVec 32 := Scalar.addi v100 v101
  let v103 : BitVec 32 := Scalar.addi v102 c0_i32_39
  let v138 : Index := Scalar.indexCast v103
  let c0_47 : Index := 0#32
  let c0_48 : Index := 0#32
  ![v138.toNat, 0, 0]
@[reducible] def k1_t4_loop (k1_t1 : Fin k1_t1_loop.trips) : Scf.Loop 32 :=
  let c0_i32 : BitVec 32 := 0#32
  let c1_i32 : BitVec 32 := 1#32
  let arg3 : BitVec 32 := Scf.iv c0_i32 c1_i32 k1_t1
  let c1_i32_30 : BitVec 32 := 1#32
  let v92 : BitVec 32 := Scalar.addi arg3 c1_i32_30
  let c4_i32_31 : BitVec 32 := 4#32
  let c9_i32 : BitVec 32 := 9#32
  let v69 : BitVec 32 := Scalar.subi c9_i32 arg3
  let c0_i32_19 : BitVec 32 := 0#32
  let v71 : BitVec 1 := Scalar.cmpi .sgt v69 c0_i32_19
  let v72 : BitVec 32 := Scalar.extui v71
  let c0_i32_20 : BitVec 32 := 0#32
  let v73 : BitVec 1 := Scalar.cmpi .slt v69 c0_i32_20
  let v74 : BitVec 32 := Scalar.extui v73
  let v75 : BitVec 32 := Scalar.subi v72 v74
  let c4_i32 : BitVec 32 := 4#32
  let c0_i32_21 : BitVec 32 := 0#32
  let v76 : BitVec 1 := Scalar.cmpi .sgt c4_i32 c0_i32_21
  let v77 : BitVec 32 := Scalar.extui v76
  let c0_i32_22 : BitVec 32 := 0#32
  let v78 : BitVec 1 := Scalar.cmpi .slt c4_i32 c0_i32_22
  let v79 : BitVec 32 := Scalar.extui v78
  let v80 : BitVec 32 := Scalar.subi v77 v79
  let v81 : BitVec 1 := Scalar.cmpi .ne v75 v80
  let v82 : BitVec 32 := Scalar.remsi v69 c4_i32
  let c0_i32_23 : BitVec 32 := 0#32
  let v83 : BitVec 1 := Scalar.cmpi .ne v82 c0_i32_23
  let v84 : BitVec 1 := Scalar.andi v81 v83
  let v70 : BitVec 32 := Scalar.divsi v69 c4_i32
  let c1_i32_24 : BitVec 32 := 1#32
  let v85 : BitVec 32 := Scalar.subi v70 c1_i32_24
  let v86 : BitVec 32 := Scalar.select v84 v85 v70
  let v93 : BitVec 32 := Scalar.muli c4_i32_31 v86
  let v94 : BitVec 32 := Scalar.addi v92 v93
  let c10_i32_33 : BitVec 32 := 10#32
  let v95 : BitVec 32 := Scalar.subi c10_i32_33 v94
  let c1_i32_34 : BitVec 32 := 1#32
  let v97 : BitVec 32 := Scalar.divsi v95 c1_i32_34
  let v98 : BitVec 32 := Scalar.muli v97 c1_i32_34
  let v99 : BitVec 32 := Scalar.addi v94 v98
  let c1_i32_35 : BitVec 32 := 1#32
  ⟨v94, v99, c1_i32_35⟩
def k1_off8 (k1_t1 : Fin k1_t1_loop.trips) (k1_t4 : Fin (k1_t4_loop k1_t1).trips) : Fin 3 → Nat :=
  let c0_i32 : BitVec 32 := 0#32
  let c1_i32 : BitVec 32 := 1#32
  let arg3 : BitVec 32 := Scf.iv c0_i32 c1_i32 k1_t1
  let c1_i32_30 : BitVec 32 := 1#32
  let v92 : BitVec 32 := Scalar.addi arg3 c1_i32_30
  let c4_i32_31 : BitVec 32 := 4#32
  let c9_i32 : BitVec 32 := 9#32
  let v69 : BitVec 32 := Scalar.subi c9_i32 arg3
  let c0_i32_19 : BitVec 32 := 0#32
  let v71 : BitVec 1 := Scalar.cmpi .sgt v69 c0_i32_19
  let v72 : BitVec 32 := Scalar.extui v71
  let c0_i32_20 : BitVec 32 := 0#32
  let v73 : BitVec 1 := Scalar.cmpi .slt v69 c0_i32_20
  let v74 : BitVec 32 := Scalar.extui v73
  let v75 : BitVec 32 := Scalar.subi v72 v74
  let c4_i32 : BitVec 32 := 4#32
  let c0_i32_21 : BitVec 32 := 0#32
  let v76 : BitVec 1 := Scalar.cmpi .sgt c4_i32 c0_i32_21
  let v77 : BitVec 32 := Scalar.extui v76
  let c0_i32_22 : BitVec 32 := 0#32
  let v78 : BitVec 1 := Scalar.cmpi .slt c4_i32 c0_i32_22
  let v79 : BitVec 32 := Scalar.extui v78
  let v80 : BitVec 32 := Scalar.subi v77 v79
  let v81 : BitVec 1 := Scalar.cmpi .ne v75 v80
  let v82 : BitVec 32 := Scalar.remsi v69 c4_i32
  let c0_i32_23 : BitVec 32 := 0#32
  let v83 : BitVec 1 := Scalar.cmpi .ne v82 c0_i32_23
  let v84 : BitVec 1 := Scalar.andi v81 v83
  let v70 : BitVec 32 := Scalar.divsi v69 c4_i32
  let c1_i32_24 : BitVec 32 := 1#32
  let v85 : BitVec 32 := Scalar.subi v70 c1_i32_24
  let v86 : BitVec 32 := Scalar.select v84 v85 v70
  let v93 : BitVec 32 := Scalar.muli c4_i32_31 v86
  let v94 : BitVec 32 := Scalar.addi v92 v93
  let c1_i32_35 : BitVec 32 := 1#32
  let arg4 : BitVec 32 := Scf.iv v94 c1_i32_35 k1_t4
  let v100 : Index := Scalar.indexCast arg4
  let c0_37 : Index := 0#32
  let c0_38 : Index := 0#32
  ![v100.toNat, 0, 0]
def k1_off9 (k1_t1 : Fin k1_t1_loop.trips) (k1_t4 : Fin (k1_t4_loop k1_t1).trips) : Fin 3 → Nat :=
  let c0_i32 : BitVec 32 := 0#32
  let c1_i32 : BitVec 32 := 1#32
  let arg3 : BitVec 32 := Scf.iv c0_i32 c1_i32 k1_t1
  let c1_i32_30 : BitVec 32 := 1#32
  let v92 : BitVec 32 := Scalar.addi arg3 c1_i32_30
  let c4_i32_31 : BitVec 32 := 4#32
  let c9_i32 : BitVec 32 := 9#32
  let v69 : BitVec 32 := Scalar.subi c9_i32 arg3
  let c0_i32_19 : BitVec 32 := 0#32
  let v71 : BitVec 1 := Scalar.cmpi .sgt v69 c0_i32_19
  let v72 : BitVec 32 := Scalar.extui v71
  let c0_i32_20 : BitVec 32 := 0#32
  let v73 : BitVec 1 := Scalar.cmpi .slt v69 c0_i32_20
  let v74 : BitVec 32 := Scalar.extui v73
  let v75 : BitVec 32 := Scalar.subi v72 v74
  let c4_i32 : BitVec 32 := 4#32
  let c0_i32_21 : BitVec 32 := 0#32
  let v76 : BitVec 1 := Scalar.cmpi .sgt c4_i32 c0_i32_21
  let v77 : BitVec 32 := Scalar.extui v76
  let c0_i32_22 : BitVec 32 := 0#32
  let v78 : BitVec 1 := Scalar.cmpi .slt c4_i32 c0_i32_22
  let v79 : BitVec 32 := Scalar.extui v78
  let v80 : BitVec 32 := Scalar.subi v77 v79
  let v81 : BitVec 1 := Scalar.cmpi .ne v75 v80
  let v82 : BitVec 32 := Scalar.remsi v69 c4_i32
  let c0_i32_23 : BitVec 32 := 0#32
  let v83 : BitVec 1 := Scalar.cmpi .ne v82 c0_i32_23
  let v84 : BitVec 1 := Scalar.andi v81 v83
  let v70 : BitVec 32 := Scalar.divsi v69 c4_i32
  let c1_i32_24 : BitVec 32 := 1#32
  let v85 : BitVec 32 := Scalar.subi v70 c1_i32_24
  let v86 : BitVec 32 := Scalar.select v84 v85 v70
  let v93 : BitVec 32 := Scalar.muli c4_i32_31 v86
  let v94 : BitVec 32 := Scalar.addi v92 v93
  let c1_i32_35 : BitVec 32 := 1#32
  let arg4 : BitVec 32 := Scf.iv v94 c1_i32_35 k1_t4
  let v134 : Index := Scalar.indexCast arg4
  let c0_44 : Index := 0#32
  let c0_45 : Index := 0#32
  ![v134.toNat, 0, 0]
@[reducible] def k1_t5_loop (k1_t1 : Fin k1_t1_loop.trips) : Scf.Loop 32 :=
  let c0_i32 : BitVec 32 := 0#32
  let c1_i32 : BitVec 32 := 1#32
  let arg3 : BitVec 32 := Scf.iv c0_i32 c1_i32 k1_t1
  let c1_i32_30 : BitVec 32 := 1#32
  let v92 : BitVec 32 := Scalar.addi arg3 c1_i32_30
  let c4_i32_31 : BitVec 32 := 4#32
  let c9_i32 : BitVec 32 := 9#32
  let v69 : BitVec 32 := Scalar.subi c9_i32 arg3
  let c0_i32_19 : BitVec 32 := 0#32
  let v71 : BitVec 1 := Scalar.cmpi .sgt v69 c0_i32_19
  let v72 : BitVec 32 := Scalar.extui v71
  let c0_i32_20 : BitVec 32 := 0#32
  let v73 : BitVec 1 := Scalar.cmpi .slt v69 c0_i32_20
  let v74 : BitVec 32 := Scalar.extui v73
  let v75 : BitVec 32 := Scalar.subi v72 v74
  let c4_i32 : BitVec 32 := 4#32
  let c0_i32_21 : BitVec 32 := 0#32
  let v76 : BitVec 1 := Scalar.cmpi .sgt c4_i32 c0_i32_21
  let v77 : BitVec 32 := Scalar.extui v76
  let c0_i32_22 : BitVec 32 := 0#32
  let v78 : BitVec 1 := Scalar.cmpi .slt c4_i32 c0_i32_22
  let v79 : BitVec 32 := Scalar.extui v78
  let v80 : BitVec 32 := Scalar.subi v77 v79
  let v81 : BitVec 1 := Scalar.cmpi .ne v75 v80
  let v82 : BitVec 32 := Scalar.remsi v69 c4_i32
  let c0_i32_23 : BitVec 32 := 0#32
  let v83 : BitVec 1 := Scalar.cmpi .ne v82 c0_i32_23
  let v84 : BitVec 1 := Scalar.andi v81 v83
  let v70 : BitVec 32 := Scalar.divsi v69 c4_i32
  let c1_i32_24 : BitVec 32 := 1#32
  let v85 : BitVec 32 := Scalar.subi v70 c1_i32_24
  let v86 : BitVec 32 := Scalar.select v84 v85 v70
  let v93 : BitVec 32 := Scalar.muli c4_i32_31 v86
  let v94 : BitVec 32 := Scalar.addi v92 v93
  let c10_i32_33 : BitVec 32 := 10#32
  let v95 : BitVec 32 := Scalar.subi c10_i32_33 v94
  let c1_i32_34 : BitVec 32 := 1#32
  let v97 : BitVec 32 := Scalar.divsi v95 c1_i32_34
  let v98 : BitVec 32 := Scalar.muli v97 c1_i32_34
  let v99 : BitVec 32 := Scalar.addi v94 v98
  let v96 : BitVec 32 := Scalar.addi v94 v95
  let c1_i32_36 : BitVec 32 := 1#32
  ⟨v99, v96, c1_i32_36⟩
def k1_off10 (k1_t1 : Fin k1_t1_loop.trips) (k1_t5 : Fin (k1_t5_loop k1_t1).trips) : Fin 3 → Nat :=
  let c0_i32 : BitVec 32 := 0#32
  let c1_i32 : BitVec 32 := 1#32
  let arg3 : BitVec 32 := Scf.iv c0_i32 c1_i32 k1_t1
  let c1_i32_30 : BitVec 32 := 1#32
  let v92 : BitVec 32 := Scalar.addi arg3 c1_i32_30
  let c4_i32_31 : BitVec 32 := 4#32
  let c9_i32 : BitVec 32 := 9#32
  let v69 : BitVec 32 := Scalar.subi c9_i32 arg3
  let c0_i32_19 : BitVec 32 := 0#32
  let v71 : BitVec 1 := Scalar.cmpi .sgt v69 c0_i32_19
  let v72 : BitVec 32 := Scalar.extui v71
  let c0_i32_20 : BitVec 32 := 0#32
  let v73 : BitVec 1 := Scalar.cmpi .slt v69 c0_i32_20
  let v74 : BitVec 32 := Scalar.extui v73
  let v75 : BitVec 32 := Scalar.subi v72 v74
  let c4_i32 : BitVec 32 := 4#32
  let c0_i32_21 : BitVec 32 := 0#32
  let v76 : BitVec 1 := Scalar.cmpi .sgt c4_i32 c0_i32_21
  let v77 : BitVec 32 := Scalar.extui v76
  let c0_i32_22 : BitVec 32 := 0#32
  let v78 : BitVec 1 := Scalar.cmpi .slt c4_i32 c0_i32_22
  let v79 : BitVec 32 := Scalar.extui v78
  let v80 : BitVec 32 := Scalar.subi v77 v79
  let v81 : BitVec 1 := Scalar.cmpi .ne v75 v80
  let v82 : BitVec 32 := Scalar.remsi v69 c4_i32
  let c0_i32_23 : BitVec 32 := 0#32
  let v83 : BitVec 1 := Scalar.cmpi .ne v82 c0_i32_23
  let v84 : BitVec 1 := Scalar.andi v81 v83
  let v70 : BitVec 32 := Scalar.divsi v69 c4_i32
  let c1_i32_24 : BitVec 32 := 1#32
  let v85 : BitVec 32 := Scalar.subi v70 c1_i32_24
  let v86 : BitVec 32 := Scalar.select v84 v85 v70
  let v93 : BitVec 32 := Scalar.muli c4_i32_31 v86
  let v94 : BitVec 32 := Scalar.addi v92 v93
  let c10_i32_33 : BitVec 32 := 10#32
  let v95 : BitVec 32 := Scalar.subi c10_i32_33 v94
  let c1_i32_34 : BitVec 32 := 1#32
  let v97 : BitVec 32 := Scalar.divsi v95 c1_i32_34
  let v98 : BitVec 32 := Scalar.muli v97 c1_i32_34
  let v99 : BitVec 32 := Scalar.addi v94 v98
  let c1_i32_36 : BitVec 32 := 1#32
  let arg4 : BitVec 32 := Scf.iv v99 c1_i32_36 k1_t5
  let v100 : Index := Scalar.indexCast arg4
  let c0_37 : Index := 0#32
  let c0_38 : Index := 0#32
  ![v100.toNat, 0, 0]
def k1_off11 (k1_t1 : Fin k1_t1_loop.trips) (k1_t5 : Fin (k1_t5_loop k1_t1).trips) : Fin 3 → Nat :=
  let c0_i32 : BitVec 32 := 0#32
  let c1_i32 : BitVec 32 := 1#32
  let arg3 : BitVec 32 := Scf.iv c0_i32 c1_i32 k1_t1
  let c1_i32_30 : BitVec 32 := 1#32
  let v92 : BitVec 32 := Scalar.addi arg3 c1_i32_30
  let c4_i32_31 : BitVec 32 := 4#32
  let c9_i32 : BitVec 32 := 9#32
  let v69 : BitVec 32 := Scalar.subi c9_i32 arg3
  let c0_i32_19 : BitVec 32 := 0#32
  let v71 : BitVec 1 := Scalar.cmpi .sgt v69 c0_i32_19
  let v72 : BitVec 32 := Scalar.extui v71
  let c0_i32_20 : BitVec 32 := 0#32
  let v73 : BitVec 1 := Scalar.cmpi .slt v69 c0_i32_20
  let v74 : BitVec 32 := Scalar.extui v73
  let v75 : BitVec 32 := Scalar.subi v72 v74
  let c4_i32 : BitVec 32 := 4#32
  let c0_i32_21 : BitVec 32 := 0#32
  let v76 : BitVec 1 := Scalar.cmpi .sgt c4_i32 c0_i32_21
  let v77 : BitVec 32 := Scalar.extui v76
  let c0_i32_22 : BitVec 32 := 0#32
  let v78 : BitVec 1 := Scalar.cmpi .slt c4_i32 c0_i32_22
  let v79 : BitVec 32 := Scalar.extui v78
  let v80 : BitVec 32 := Scalar.subi v77 v79
  let v81 : BitVec 1 := Scalar.cmpi .ne v75 v80
  let v82 : BitVec 32 := Scalar.remsi v69 c4_i32
  let c0_i32_23 : BitVec 32 := 0#32
  let v83 : BitVec 1 := Scalar.cmpi .ne v82 c0_i32_23
  let v84 : BitVec 1 := Scalar.andi v81 v83
  let v70 : BitVec 32 := Scalar.divsi v69 c4_i32
  let c1_i32_24 : BitVec 32 := 1#32
  let v85 : BitVec 32 := Scalar.subi v70 c1_i32_24
  let v86 : BitVec 32 := Scalar.select v84 v85 v70
  let v93 : BitVec 32 := Scalar.muli c4_i32_31 v86
  let v94 : BitVec 32 := Scalar.addi v92 v93
  let c10_i32_33 : BitVec 32 := 10#32
  let v95 : BitVec 32 := Scalar.subi c10_i32_33 v94
  let c1_i32_34 : BitVec 32 := 1#32
  let v97 : BitVec 32 := Scalar.divsi v95 c1_i32_34
  let v98 : BitVec 32 := Scalar.muli v97 c1_i32_34
  let v99 : BitVec 32 := Scalar.addi v94 v98
  let c1_i32_36 : BitVec 32 := 1#32
  let arg4 : BitVec 32 := Scf.iv v99 c1_i32_36 k1_t5
  let v134 : Index := Scalar.indexCast arg4
  let c0_44 : Index := 0#32
  let c0_45 : Index := 0#32
  ![v134.toNat, 0, 0]
@[reducible] def k1_t6_loop : Scf.Loop 32 :=
  let c0_i32_3 : BitVec 32 := 0#32
  let c10_i32_4 : BitVec 32 := 10#32
  let v8 : BitVec 32 := Scalar.addi c0_i32_3 c10_i32_4
  let c1_i32_5 : BitVec 32 := 1#32
  ⟨c0_i32_3, v8, c1_i32_5⟩
def k1_off12 (k1_t6 : Fin k1_t6_loop.trips) : Fin 3 → Nat :=
  let c0_i32_3 : BitVec 32 := 0#32
  let c1_i32_5 : BitVec 32 := 1#32
  let arg3 : BitVec 32 := Scf.iv c0_i32_3 c1_i32_5 k1_t6
  let v9 : Index := Scalar.indexCast arg3
  let c0_7 : Index := 0#32
  let c0_8 : Index := 0#32
  ![v9.toNat, 0, 0]
def k1_off13 (k1_t6 : Fin k1_t6_loop.trips) : Fin 3 → Nat :=
  let c0_i32_3 : BitVec 32 := 0#32
  let c1_i32_5 : BitVec 32 := 1#32
  let arg3 : BitVec 32 := Scf.iv c0_i32_3 c1_i32_5 k1_t6
  let v12 : Index := Scalar.indexCast arg3
  let c0_9 : Index := 0#32
  let c0_10 : Index := 0#32
  ![v12.toNat, 0, 0]
abbrev stage1_0 : Fin 1 → Memref sig .tc .vmem S10x512x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10x8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10x1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1 : Shape := ⟨1, ![1]⟩
abbrev S1x1 : Shape := ⟨2, ![1, 1]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S5000x5 : Shape := ⟨2, ![5000, 5]⟩

abbrev nBuf : Space → Nat
  | .hbm => 169
  | .vmem => 0
  | .smem => 0
  | _ => 0

abbrev hbmTy0_0 (i : Nat) : BufTy := match i % 128 with
  | 0 => ⟨S5000x4, .f32⟩
  | 1 => ⟨S5000, .f32⟩
  | 2 => ⟨S5000, .f32⟩
  | 3 => ⟨S5000, .i32⟩
  | 4 => ⟨S5000, .f32⟩
  | 5 => ⟨S5000, .i32⟩
  | 6 => ⟨S_, .i32⟩
  | 7 => ⟨S5000, .i32⟩
  | 8 => ⟨S5000, .i1⟩
  | 9 => ⟨S_, .i32⟩
  | 10 => ⟨S5000, .i32⟩
  | 11 => ⟨S5000, .i32⟩
  | 12 => ⟨S5000, .i32⟩
  | 13 => ⟨S5000x1, .i32⟩
  | 14 => ⟨S1, .i32⟩
  | 15 => ⟨S_, .i32⟩
  | 16 => ⟨S5000x1, .i32⟩
  | 17 => ⟨S5000x1, .i1⟩
  | 18 => ⟨S1x1, .i32⟩
  | 19 => ⟨S5000x1, .i32⟩
  | 20 => ⟨S5000x1, .i1⟩
  | 21 => ⟨S5000x1, .i1⟩
  | 22 => ⟨S_, .i1⟩
  | 23 => ⟨S5000, .i1⟩
  | 24 => ⟨S5000x4, .f32⟩
  | 25 => ⟨S5000x4, .i1⟩
  | 26 => ⟨S_, .f32⟩
  | 27 => ⟨S5000x4, .f32⟩
  | 28 => ⟨S5000x4, .f32⟩
  | 29 => ⟨S_, .i32⟩
  | 30 => ⟨S5000, .i32⟩
  | 31 => ⟨S5000, .i1⟩
  | 32 => ⟨S_, .i32⟩
  | 33 => ⟨S5000, .i32⟩
  | 34 => ⟨S5000, .i32⟩
  | 35 => ⟨S5000, .i32⟩
  | 36 => ⟨S5000x1, .i32⟩
  | 37 => ⟨S1, .i32⟩
  | 38 => ⟨S_, .i32⟩
  | 39 => ⟨S5000x1, .i32⟩
  | 40 => ⟨S5000x1, .i1⟩
  | 41 => ⟨S1x1, .i32⟩
  | 42 => ⟨S5000x1, .i32⟩
  | 43 => ⟨S5000x1, .i1⟩
  | 44 => ⟨S5000x1, .i1⟩
  | 45 => ⟨S_, .i1⟩
  | 46 => ⟨S5000, .i1⟩
  | 47 => ⟨S5000, .f32⟩
  | 48 => ⟨S_, .f32⟩
  | 49 => ⟨S5000, .f32⟩
  | 50 => ⟨S5000, .f32⟩
  | 51 => ⟨S5000x1, .f32⟩
  | 52 => ⟨S5000, .f32⟩
  | 53 => ⟨S5000x1, .f32⟩
  | 54 => ⟨S5000, .f32⟩
  | 55 => ⟨S5000, .f32⟩
  | 56 => ⟨S5000x1, .f32⟩
  | 57 => ⟨S5000, .f32⟩
  | 58 => ⟨S5000x1, .f32⟩
  | 59 => ⟨S5000, .f32⟩
  | 60 => ⟨S5000, .f32⟩
  | 61 => ⟨S5000, .f32⟩
  | 62 => ⟨S5000x1, .f32⟩
  | 63 => ⟨S5000, .f32⟩
  | 64 => ⟨S5000x1, .f32⟩
  | 65 => ⟨S5000, .f32⟩
  | 66 => ⟨S5000, .f32⟩
  | 67 => ⟨S5000x1, .f32⟩
  | 68 => ⟨S5000, .f32⟩
  | 69 => ⟨S5000x1, .f32⟩
  | 70 => ⟨S5000, .f32⟩
  | 71 => ⟨S5000, .f32⟩
  | 72 => ⟨S5000, .f32⟩
  | 73 => ⟨S5000x2, .f32⟩
  | 74 => ⟨S5000x1x2, .f32⟩
  | 75 => ⟨S5000x2, .f32⟩
  | 76 => ⟨S1x5000x2, .f32⟩
  | 77 => ⟨S5000x5000x2, .f32⟩
  | 78 => ⟨S5000x5000x2, .f32⟩
  | 79 => ⟨S5000x5000x2, .f32⟩
  | 80 => ⟨S5000x2, .f32⟩
  | 81 => ⟨S5000x1x2, .f32⟩
  | 82 => ⟨S5000x2, .f32⟩
  | 83 => ⟨S1x5000x2, .f32⟩
  | 84 => ⟨S5000x5000x2, .f32⟩
  | 85 => ⟨S5000x5000x2, .f32⟩
  | 86 => ⟨S5000x5000x2, .f32⟩
  | 87 => ⟨S5000x5000x2, .f32⟩
  | 88 => ⟨S_, .f32⟩
  | 89 => ⟨S_, .f32⟩
  | 90 => ⟨S5000x5000x2, .f32⟩
  | 91 => ⟨S5000x5000x2, .f32⟩
  | 92 => ⟨S5000x5000x1, .f32⟩
  | 93 => ⟨S5000x5000, .f32⟩
  | 94 => ⟨S5000x5000x1, .f32⟩
  | 95 => ⟨S5000x5000, .f32⟩
  | 96 => ⟨S5000x5000, .f32⟩
  | 97 => ⟨S5000x1, .f32⟩
  | 98 => ⟨S1x5000, .f32⟩
  | 99 => ⟨S5000x5000, .f32⟩
  | 100 => ⟨S5000x5000, .f32⟩
  | 101 => ⟨S5000x5000, .f32⟩
  | 102 => ⟨S5000x5000, .f32⟩
  | 103 => ⟨S_, .f32⟩
  | 104 => ⟨S5000x5000, .f32⟩
  | 105 => ⟨S5000x5000, .f32⟩
  | 106 => ⟨S5000x5000, .f32⟩
  | 107 => ⟨S5000, .i32⟩
  | 108 => ⟨S_, .i1⟩
  | 109 => ⟨S5000, .i1⟩
  | 110 => ⟨S_, .i32⟩
  | 111 => ⟨S_, .i32⟩
  | 112 => ⟨S5000x5000, .f32⟩
  | 113 => ⟨S5000, .i32⟩
  | 114 => ⟨S_, .i32⟩
  | 115 => ⟨S_, .i32⟩
  | 116 => ⟨S5000, .i1⟩
  | 117 => ⟨S_, .i32⟩
  | 118 => ⟨S_, .i1⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S1, .i1⟩
  | _ => ⟨S5000x4, .f32⟩

abbrev hbmTy0_1 (i : Nat) : BufTy := match i % 128 with
  | 0 => ⟨S_, .i1⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S1x5000, .f32⟩
  | 16 => ⟨S5000, .f32⟩
  | 17 => ⟨S_, .f32⟩
  | 18 => ⟨S5000, .f32⟩
  | 19 => ⟨S5000, .i1⟩
  | 20 => ⟨S5000, .i1⟩
  | 21 => ⟨S5000, .i1⟩
  | 22 => ⟨S_, .i32⟩
  | 23 => ⟨S5000, .i32⟩
  | 24 => ⟨S5000, .i1⟩
  | 25 => ⟨S5000, .i1⟩
  | 26 => ⟨S5000, .i1⟩
  | 27 => ⟨S5000, .i1⟩
  | 28 => ⟨S_, .i32⟩
  | 29 => ⟨S_, .i32⟩
  | 30 => ⟨S_, .f32⟩
  | 31 => ⟨S5000, .f32⟩
  | 32 => ⟨S5000, .i1⟩
  | 33 => ⟨S5000, .i1⟩
  | 34 => ⟨S5000, .f32⟩
  | 35 => ⟨S5000x1, .f32⟩
  | 36 => ⟨S5000x4, .f32⟩
  | 37 => ⟨S5000x4, .f32⟩
  | 38 => ⟨S5000, .f32⟩
  | 39 => ⟨S5000x1, .f32⟩
  | 40 => ⟨S5000x5, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_v14 : Ref sig .tc := ⟨.hbm, 25, rfl⟩
abbrev main_call1_cst : Ref sig .tc := ⟨.hbm, 26, rfl⟩
abbrev main_call1_v15 : Ref sig .tc := ⟨.hbm, 27, rfl⟩
abbrev main_v2 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst : Ref sig .tc := ⟨.hbm, 88, rfl⟩
abbrev main_call3_v0 : Ref sig .tc := ⟨.hbm, 89, rfl⟩
abbrev main_call3_v1 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_0 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c : Ref sig .tc := ⟨.hbm, 108, rfl⟩
abbrev main_v57 : Ref sig .tc := ⟨.hbm, 109, rfl⟩
abbrev main_c_1 : Ref sig .tc := ⟨.hbm, 110, rfl⟩
abbrev main_c_2 : Ref sig .tc := ⟨.hbm, 111, rfl⟩
abbrev main_v58_0 : Ref sig .tc := ⟨.hbm, 112, rfl⟩
abbrev main_v58_1 : Ref sig .tc := ⟨.hbm, 113, rfl⟩
abbrev main_v58_2 : Ref sig .tc := ⟨.hbm, 114, rfl⟩
abbrev main_v58_3 : Ref sig .tc := ⟨.hbm, 115, rfl⟩
abbrev main_v58_4 : Ref sig .tc := ⟨.hbm, 116, rfl⟩
abbrev main_while0c_c_8 : Ref sig .tc := ⟨.hbm, 117, rfl⟩
abbrev main_while0c_v69 : Ref sig .tc := ⟨.hbm, 118, rfl⟩
abbrev main_while0b_c_8 : Ref sig .tc := ⟨.hbm, 119, rfl⟩
abbrev main_while0b_v69 : Ref sig .tc := ⟨.hbm, 120, rfl⟩
abbrev main_while0b_c_9 : Ref sig .tc := ⟨.hbm, 121, rfl⟩
abbrev main_while0b_v70 : Ref sig .tc := ⟨.hbm, 122, rfl⟩
abbrev main_while0b_v71 : Ref sig .tc := ⟨.hbm, 123, rfl⟩
abbrev main_while0b_c_10 : Ref sig .tc := ⟨.hbm, 124, rfl⟩
abbrev main_while0b_v72 : Ref sig .tc := ⟨.hbm, 125, rfl⟩
abbrev main_while0b_v73 : Ref sig .tc := ⟨.hbm, 126, rfl⟩
abbrev main_while0b_v74 : Ref sig .tc := ⟨.hbm, 127, rfl⟩
abbrev main_while0b_v75 : Ref sig .tc := ⟨.hbm, 128, rfl⟩
abbrev main_while0b_v76 : Ref sig .tc := ⟨.hbm, 129, rfl⟩
abbrev main_while0b_c_11 : Ref sig .tc := ⟨.hbm, 130, rfl⟩
abbrev main_while0b_v77 : Ref sig .tc := ⟨.hbm, 131, rfl⟩
abbrev main_while0b_c_12 : Ref sig .tc := ⟨.hbm, 132, rfl⟩
abbrev main_while0b_v78 : Ref sig .tc := ⟨.hbm, 133, rfl⟩
abbrev main_while0b_v79 : Ref sig .tc := ⟨.hbm, 134, rfl⟩
abbrev main_while0b_c_13 : Ref sig .tc := ⟨.hbm, 135, rfl⟩
abbrev main_while0b_c_14 : Ref sig .tc := ⟨.hbm, 136, rfl⟩
abbrev main_while0b_v80 : Ref sig .tc := ⟨.hbm, 137, rfl⟩
abbrev main_while0b_c_15 : Ref sig .tc := ⟨.hbm, 138, rfl⟩
abbrev main_while0b_c_16 : Ref sig .tc := ⟨.hbm, 139, rfl⟩
abbrev main_while0b_v81 : Ref sig .tc := ⟨.hbm, 140, rfl⟩
abbrev main_while0b_c_17 : Ref sig .tc := ⟨.hbm, 141, rfl⟩
abbrev main_while0b_v82 : Ref sig .tc := ⟨.hbm, 142, rfl⟩
abbrev main_while0b_v83 : Ref sig .tc := ⟨.hbm, 143, rfl⟩
abbrev main_while0b_v84 : Ref sig .tc := ⟨.hbm, 144, rfl⟩
abbrev main_while0b_cst_18 : Ref sig .tc := ⟨.hbm, 145, rfl⟩
abbrev main_while0b_v85 : Ref sig .tc := ⟨.hbm, 146, rfl⟩
abbrev main_while0b_v86 : Ref sig .tc := ⟨.hbm, 147, rfl⟩
abbrev main_while0b_v87 : Ref sig .tc := ⟨.hbm, 148, rfl⟩
abbrev main_while0b_v88 : Ref sig .tc := ⟨.hbm, 149, rfl⟩
abbrev main_while0b_v89 : Ref sig .tc := ⟨.hbm, 150, rfl⟩
abbrev main_while0b_v90 : Ref sig .tc := ⟨.hbm, 151, rfl⟩
abbrev main_while0b_v91 : Ref sig .tc := ⟨.hbm, 152, rfl⟩
abbrev main_while0b_v92 : Ref sig .tc := ⟨.hbm, 153, rfl⟩
abbrev main_while0b_v93 : Ref sig .tc := ⟨.hbm, 154, rfl⟩
abbrev main_while0b_v94 : Ref sig .tc := ⟨.hbm, 155, rfl⟩
abbrev main_while0b_c_19 : Ref sig .tc := ⟨.hbm, 156, rfl⟩
abbrev main_while0b_v95 : Ref sig .tc := ⟨.hbm, 157, rfl⟩
abbrev main_cst_3 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩

abbrev nD : Nat := 1
abbrev τ : Topo := Topo.v7x

variable {F : FTy → Type} [FloatOps F]

abbrev main_while0_count : Scf.Loop 32 := ⟨0#32, 5000#32, 1#32⟩
-- ==== Proof.KHost.lean ====
/-
  The kernel's host code around its two calls: the operations as lists, what each list reads and writes, and @main as the
  chain of the lists and the calls.
-/
module

public import proofs.«01_k».proof.Proof.Gen.KernelIdeal
public import Idealize.ShloMosaic.Lib.StableHlo.Run
public import Idealize.ShloMosaic.Lib.Pipeline.Regions
public import Idealize.ShloMosaic.Lib.Tactic

@[expose] public section

noncomputable section

namespace Cert.Proof.KHost

open Cert.KernelIdeal Cert.KernelIdeal.Gen
open Idealize.ShloMosaic Idealize.ShloMosaic.TcCoe
open Idealize.SL Idealize.SL.RA Idealize.SL.BI Idealize.SL.Sem

variable {F : FTy → Type} [FloatOps F]

/-- The scores negated. -/
abbrev opsA : List (HloOp τ sig (Elt F)) :=
  [ StableHlo.unary main_arg1 main_v0 (Host.negf : (⟨S5000, .f32⟩ : BufTy).Contents (Elt F) → (⟨S5000, .f32⟩ : BufTy).Contents (Elt F)) ]
theorem opsA_sub : (opsA : List (HloOp τ sig (Elt F))).Forall fun op => op.bufs ⊆ StableHlo.tcRefs τ sig :=
  StableHlo.unary_bufs_sub ..
theorem opsA_fresh : (opsA : List (HloOp τ sig (Elt F))).Forall fun op => op.fresh = ∅ := StableHlo.forall_fresh_of_map rfl
abbrev opsA_W : List (Ref sig .tc) := [main_v0]
theorem opsA_writes : (opsA : List (HloOp τ sig (Elt F))).Forall fun op => op.writes ⊆ (opsA_W.map (Proc.devRef (τ := τ) .tc)).toFinset :=
  StableHlo.forall_writes_sub_of_map rfl

/-- The order of the negated scores. -/
abbrev opsB : List (HloOp τ sig (Elt F)) :=
  [ StableHlo.TRef.nullary (.of main_call0_v0 : StableHlo.TRef sig ⟨S5000, .i32⟩) (iotaInDim S5000 32 0),
    StableHlo.TRef.binary (.of main_v0 : StableHlo.TRef sig ⟨S5000, .f32⟩) (.of main_call0_v0 : StableHlo.TRef sig ⟨S5000, .i32⟩) (.of main_call0_v1_0 : StableHlo.TRef sig ⟨S5000, .f32⟩) (fun x y => (Host.sort2 S5000 0 comparator_f32_i32_d0 x y).1),
    StableHlo.TRef.binary (.of main_v0 : StableHlo.TRef sig ⟨S5000, .f32⟩) (.of main_call0_v0 : StableHlo.TRef sig ⟨S5000, .i32⟩) (.of main_v1 : StableHlo.TRef sig ⟨S5000, .i32⟩) (fun x y => (Host.sort2 S5000 0 comparator_f32_i32_d0 x y).2) ]
theorem opsB_sub : (opsB : List (HloOp τ sig (Elt F))).Forall fun op => op.bufs ⊆ StableHlo.tcRefs τ sig :=
  ⟨StableHlo.nullary_bufs_sub .., StableHlo.binary_bufs_sub .., StableHlo.binary_bufs_sub ..⟩
theorem opsB_fresh : (opsB : List (HloOp τ sig (Elt F))).Forall fun op => op.fresh = ∅ := StableHlo.forall_fresh_of_map rfl
abbrev opsB_W : List (Ref sig .tc) := [main_call0_v0, main_call0_v1_0, main_v1]
theorem opsB_writes : (opsB : List (HloOp τ sig (Elt F))).Forall fun op => op.writes ⊆ (opsB_W.map (Proc.devRef (τ := τ) .tc)).toFinset :=
  StableHlo.forall_writes_sub_of_map rfl

/-- The table and the padded order. -/
abbrev opsC : List (HloOp τ sig (Elt F)) :=
  [ StableHlo.unary main_arg0 main_v2 ((extractStridedSlice S5000x1 ![0, 2] · slices_S5000x4_S5000x1_0_2) : (⟨S5000x4, .f32⟩ : BufTy).Contents (Elt F) → (⟨S5000x1, .f32⟩ : BufTy).Contents (Elt F)),
    StableHlo.reshape main_v2 main_v3 (rfl : (.f32 : EltTy) = .f32) shapeCasts_S5000x1_S5000,
    StableHlo.unary main_arg0 main_v4 ((extractStridedSlice S5000x1 ![0, 0] · slices_S5000x4_S5000x1_0_0) : (⟨S5000x4, .f32⟩ : BufTy).Contents (Elt F) → (⟨S5000x1, .f32⟩ : BufTy).Contents (Elt F)),
    StableHlo.reshape main_v4 main_v5 (rfl : (.f32 : EltTy) = .f32) shapeCasts_S5000x1_S5000,
    StableHlo.binary main_v3 main_v5 main_v6 (subf : (⟨S5000, .f32⟩ : BufTy).Contents (Elt F) → (⟨S5000, .f32⟩ : BufTy).Contents (Elt F) → (⟨S5000, .f32⟩ : BufTy).Contents (Elt F)),
    StableHlo.unary main_arg0 main_v7 ((extractStridedSlice S5000x1 ![0, 3] · slices_S5000x4_S5000x1_0_3) : (⟨S5000x4, .f32⟩ : BufTy).Contents (Elt F) → (⟨S5000x1, .f32⟩ : BufTy).Contents (Elt F)),
    StableHlo.reshape main_v7 main_v8 (rfl : (.f32 : EltTy) = .f32) shapeCasts_S5000x1_S5000,
    StableHlo.unary main_arg0 main_v9 ((extractStridedSlice S5000x1 ![0, 1] · slices_S5000x4_S5000x1_0_1) : (⟨S5000x4, .f32⟩ : BufTy).Contents (Elt F) → (⟨S5000x1, .f32⟩ : BufTy).Contents (Elt F)),
    StableHlo.reshape main_v9 main_v10 (rfl : (.f32 : EltTy) = .f32) shapeCasts_S5000x1_S5000,
    StableHlo.binary main_v8 main_v10 main_v11 (subf : (⟨S5000, .f32⟩ : BufTy).Contents (Elt F) → (⟨S5000, .f32⟩ : BufTy).Contents (Elt F) → (⟨S5000, .f32⟩ : BufTy).Contents (Elt F)),
    StableHlo.binary main_v6 main_v11 main_v12 (mulf : (⟨S5000, .f32⟩ : BufTy).Contents (Elt F) → (⟨S5000, .f32⟩ : BufTy).Contents (Elt F) → (⟨S5000, .f32⟩ : BufTy).Contents (Elt F)),
    StableHlo.unary main_v12 main_v13 (broadcastInDim S5000x1 ![0] bcast_S5000_S5000x1_0 : (⟨S5000, .f32⟩ : BufTy).Contents (Elt F) → (⟨S5000x1, .f32⟩ : BufTy).Contents (Elt F)),
    StableHlo.unary main_arg1 main_v14 (broadcastInDim S5000x1 ![0] bcast_S5000_S5000x1_0 : (⟨S5000, .f32⟩ : BufTy).Contents (Elt F) → (⟨S5000x1, .f32⟩ : BufTy).Contents (Elt F)),
    StableHlo.nullary main_cst (constant S_ .f32 0x00000000#32),
    StableHlo.unary main_cst main_v15 (broadcastInDim S5000x10 ![] bcast_S_S5000x10 : (⟨S_, .f32⟩ : BufTy).Contents (Elt F) → (⟨S5000x10, .f32⟩ : BufTy).Contents (Elt F)),
    StableHlo.nary ![main_arg0, main_v13, main_v14, main_v15] main_v16 (fun u => (concatenate S5000x16 1 [⟨S5000x4, (u 0 : (⟨S5000x4, .f32⟩ : BufTy).Contents (Elt F))⟩, ⟨S5000x1, (u 1 : (⟨S5000x1, .f32⟩ : BufTy).Contents (Elt F))⟩, ⟨S5000x1, (u 2 : (⟨S5000x1, .f32⟩ : BufTy).Contents (Elt F))⟩, ⟨S5000x10, (u 3 : (⟨S5000x10, .f32⟩ : BufTy).Contents (Elt F))⟩] concatenates_S5000x4_S5000x1_S5000x1_S5000x10_S5000x16_d1 : (⟨S5000x16, .f32⟩ : BufTy).Contents (Elt F))),
    StableHlo.nullary main_cst_0 (constant S_ .f32 0x00000000#32),
    StableHlo.unary main_cst_0 main_v17 (broadcastInDim S120x16 ![] bcast_S_S120x16 : (⟨S_, .f32⟩ : BufTy).Contents (Elt F) → (⟨S120x16, .f32⟩ : BufTy).Contents (Elt F)),
    StableHlo.binary main_v16 main_v17 main_v18 ((fun a b => concatenate S5120x16 0 [⟨S5000x16, a⟩, ⟨S120x16, b⟩] concatenates_S5000x16_S120x16_S5120x16_d0) : (⟨S5000x16, .f32⟩ : BufTy).Contents (Elt F) → (⟨S120x16, .f32⟩ : BufTy).Contents (Elt F) → (⟨S5120x16, .f32⟩ : BufTy).Contents (Elt F)),
    StableHlo.nullary main_v19 (iotaInDim S120 32 0),
    StableHlo.nullary main_c (constantI S_ 32 5000#32),
    StableHlo.unary main_c main_v20 (broadcastInDim S120 ![] bcast_S_S120 : (⟨S_, .i32⟩ : BufTy).Contents (Elt F) → (⟨S120, .i32⟩ : BufTy).Contents (Elt F)),
    StableHlo.binary main_v20 main_v19 main_v21 (addi : (⟨S120, .i32⟩ : BufTy).Contents (Elt F) → (⟨S120, .i32⟩ : BufTy).Contents (Elt F) → (⟨S120, .i32⟩ : BufTy).Contents (Elt F)),
    StableHlo.binary main_v1 main_v21 main_v22 ((fun a b => concatenate S5120 0 [⟨S5000, a⟩, ⟨S120, b⟩] concatenates_S5000_S120_S5120_d0) : (⟨S5000, .i32⟩ : BufTy).Contents (Elt F) → (⟨S120, .i32⟩ : BufTy).Contents (Elt F) → (⟨S5120, .i32⟩ : BufTy).Contents (Elt F)) ]
theorem opsC_sub : (opsC : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.nullary_bufs_sub .., StableHlo.unary_bufs_sub .., StableHlo.nary_bufs_sub .., StableHlo.nullary_bufs_sub .., StableHlo.unary_bufs_sub .., StableHlo.binary_bufs_sub .., StableHlo.nullary_bufs_sub .., StableHlo.nullary_bufs_sub .., StableHlo.unary_bufs_sub .., StableHlo.binary_bufs_sub .., StableHlo.binary_bufs_sub ..⟩
theorem opsC_fresh : (opsC : List (HloOp τ sig (Elt F))).Forall fun op => op.fresh = ∅ := StableHlo.forall_fresh_of_map rfl
abbrev opsC_W : List (Ref sig .tc) := [main_v2, main_v3, main_v4, main_v5, main_v6, main_v7, main_v8, main_v9, main_v10, main_v11, main_v12, main_v13, main_v14, main_cst, main_v15, main_v16, main_cst_0, main_v17, main_v18, main_v19, main_c, main_v20, main_v21, main_v22]
theorem opsC_writes : (opsC : List (HloOp τ sig (Elt F))).Forall fun op => op.writes ⊆ (opsC_W.map (Proc.devRef (τ := τ) .tc)).toFinset :=
  StableHlo.forall_writes_sub_of_map rfl

/-- What is read of the gathered rows, and the suppression kernel's two operands. -/
abbrev opsD : List (HloOp τ sig (Elt F)) :=
  [ StableHlo.unary main_v23 main_v24 ((extractStridedSlice S5000x4 ![0, 0] · slices_S5120x16_S5000x4_0_0) : (⟨S5120x16, .f32⟩ : BufTy).Contents (Elt F) → (⟨S5000x4, .f32⟩ : BufTy).Contents (Elt F)),
    StableHlo.unary main_v23 main_v25 ((extractStridedSlice S5000x1 ![0, 5] · slices_S5120x16_S5000x1_0_5) : (⟨S5120x16, .f32⟩ : BufTy).Contents (Elt F) → (⟨S5000x1, .f32⟩ : BufTy).Contents (Elt F)),
    StableHlo.reshape main_v25 main_v26 (rfl : (.f32 : EltTy) = .f32) shapeCasts_S5000x1_S5000,
    StableHlo.unary main_v23 main_v27 ((extractStridedSlice S5120x8 ![0, 0] · slices_S5120x16_S5120x8_0_0) : (⟨S5120x16, .f32⟩ : BufTy).Contents (Elt F) → (⟨S5120x8, .f32⟩ : BufTy).Contents (Elt F)),
    StableHlo.reshape main_v27 main_v28 (rfl : (.f32 : EltTy) = .f32) shapeCasts_S5120x8_S10x512x8,
    StableHlo.unary main_v28 main_v29 ((transpose S10x8x512 [0, 2, 1] · transposes_S10x512x8_S10x8x512_0_2_1) : (⟨S10x512x8, .f32⟩ : BufTy).Contents (Elt F) → (⟨S10x8x512, .f32⟩ : BufTy).Contents (Elt F)) ]
theorem opsD_sub : (opsD : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.reshape_bufs_sub .., StableHlo.unary_bufs_sub ..⟩
theorem opsD_fresh : (opsD : List (HloOp τ sig (Elt F))).Forall fun op => op.fresh = ∅ := StableHlo.forall_fresh_of_map rfl
abbrev opsD_W : List (Ref sig .tc) := [main_v24, main_v25, main_v26, main_v27, main_v28, main_v29]
theorem opsD_writes : (opsD : List (HloOp τ sig (Elt F))).Forall fun op => op.writes ⊆ (opsD_W.map (Proc.devRef (τ := τ) .tc)).toFinset :=
  StableHlo.forall_writes_sub_of_map rfl

/-- The result. -/
abbrev opsE : List (HloOp τ sig (Elt F)) :=
  [ StableHlo.reshape main_v30 main_v31 (rfl : (.f32 : EltTy) = .f32) shapeCasts_S10x1x512_S5120,
    StableHlo.unary main_v31 main_v32 ((extractStridedSlice S5000 ![0] · slices_S5120_S5000_0) : (⟨S5120, .f32⟩ : BufTy).Contents (Elt F) → (⟨S5000, .f32⟩ : BufTy).Contents (Elt F)),
    StableHlo.unary main_v32 main_v33 (broadcastInDim S5000x1 ![0] bcast_S5000_S5000x1_0 : (⟨S5000, .f32⟩ : BufTy).Contents (Elt F) → (⟨S5000x1, .f32⟩ : BufTy).Contents (Elt F)),
    StableHlo.unary main_v33 main_v34 (broadcastInDim S5000x4 ![0, 1] bcast_S5000x1_S5000x4_0_1 : (⟨S5000x1, .f32⟩ : BufTy).Contents (Elt F) → (⟨S5000x4, .f32⟩ : BufTy).Contents (Elt F)),
    StableHlo.binary main_v24 main_v34 main_v35 (mulf : (⟨S5000x4, .f32⟩ : BufTy).Contents (Elt F) → (⟨S5000x4, .f32⟩ : BufTy).Contents (Elt F) → (⟨S5000x4, .f32⟩ : BufTy).Contents (Elt F)),
    StableHlo.binary main_v26 main_v32 main_v36 (mulf : (⟨S5000, .f32⟩ : BufTy).Contents (Elt F) → (⟨S5000, .f32⟩ : BufTy).Contents (Elt F) → (⟨S5000, .f32⟩ : BufTy).Contents (Elt F)),
    StableHlo.unary main_v36 main_v37 (broadcastInDim S5000x1 ![0] bcast_S5000_S5000x1_0 : (⟨S5000, .f32⟩ : BufTy).Contents (Elt F) → (⟨S5000x1, .f32⟩ : BufTy).Contents (Elt F)),
    StableHlo.binary main_v35 main_v37 main_v38 ((fun a b => concatenate S5000x5 1 [⟨S5000x4, a⟩, ⟨S5000x1, b⟩] concatenates_S5000x4_S5000x1_S5000x5_d1) : (⟨S5000x4, .f32⟩ : BufTy).Contents (Elt F) → (⟨S5000x1, .f32⟩ : BufTy).Contents (Elt F) → (⟨S5000x5, .f32⟩ : BufTy).Contents (Elt F)) ]
theorem opsE_sub : (opsE : List (HloOp τ sig (Elt F))).Forall fun op => op.bufs ⊆ StableHlo.tcRefs τ sig :=
  ⟨StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.binary_bufs_sub ..⟩
theorem opsE_fresh : (opsE : List (HloOp τ sig (Elt F))).Forall fun op => op.fresh = ∅ := StableHlo.forall_fresh_of_map rfl
abbrev opsE_W : List (Ref sig .tc) := [main_v31, main_v32, main_v33, main_v34, main_v35, main_v36, main_v37, main_v38]
theorem opsE_writes : (opsE : List (HloOp τ sig (Elt F))).Forall fun op => op.writes ⊆ (opsE_W.map (Proc.devRef (τ := τ) .tc)).toFinset :=
  StableHlo.forall_writes_sub_of_map rfl

/-- @main, statement by statement. -/
theorem main_chain (d : Dev nD) : main (F := F) d = (Pipeline.chain
  [ StableHlo.seq opsA,
    StableHlo.seq opsB,
    StableHlo.seq opsC,
    sc.run d 0,
    StableHlo.seq opsD,
    Prog.lift (.customCall (SparseCore.inner (Pipeline.entry 0)) ()),
    StableHlo.seq opsE ] : Prog (TpuEff nD τ sig (Elt F) (SparseCore.Sig (Pipeline.Sig (Λ₀ F) (Fin 1) fun p => (pcfgs (F := F) p).Adm) 1) .tc) PUnit) := by
  rewrite [StableHlo.chain_seq_cons, Pipeline.chain_cons, StableHlo.chain_seq_cons, Pipeline.chain_cons, StableHlo.chain_seq_cons, Pipeline.chain_cons]
  chain_rfl

end Cert.Proof.KHost

end
-- ==== Proof.GatherBatch.lean ====
/-
  Several indirect gathers outstanding on ONE DMA semaphore. Each row a gather serves is a transfer of its own,
  crediting the semaphore as much as any other row, so two gathers of `o` rows issued one after the other are a batch of
  `2 * o` transfers: the first gather issues the batch's first `o`, the second the rest. A wait sized to one gather
  consumes `o` transfers' units and says nothing about which rows arrived; after both waits every row has.
-/
module

public import Idealize.ShloMosaic.Lib.SparseCore.Stream
public import Idealize.ShloMosaic.Lib.Batch
public import Idealize.ShloMosaic.Lib.Tactic

@[expose] public section

noncomputable section

namespace Cert.Proof.GatherBatch

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (gatherPayload gatherRow rowShape_numel_pos)

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- Three assertions side by side, bracketed either way. -/
theorem three_assoc (A B C : sProp 𝕄) : iprop(A ∗ B ∗ C) = iprop((A ∗ B) ∗ C) :=
  have h : iprop((A ∗ B) ∗ C) ⊢ iprop(A ∗ B ∗ C) := sep_assoc.1
  have h' : iprop(A ∗ B ∗ C) ⊢ iprop((A ∗ B) ∗ C) := sep_assoc.2
  BI.Entails.antisymm h' h

/-- The transfers from the `j`-th on are the next `o` and those from the `j + o`-th on. -/
theorem pending_split {n : ℕ} (Φ : Fin n → sProp 𝕄) :
    ∀ (o j : ℕ) (h : j + o ≤ n), bigSep (Transfers.pending j) Φ
      = iprop((bigSep Finset.univ fun k : Fin o => Φ ⟨j + k.val, by have := k.isLt; omega⟩) ∗ bigSep (Transfers.pending (j + o)) Φ)
  | 0, j, h => by
    rw [show (Finset.univ : Finset (Fin 0)) = ∅ from rfl, bigSep_empty]
    exact (BI.Entails.antisymm (emp_sep.1) (emp_sep.2)).symm
  | o + 1, j, h => by
    rw [Transfers.bigSep_pending_step Φ j (by omega), pending_split Φ o (j + 1) (by omega), bigSep_univ_succ]
    have e : (fun k : Fin o => Φ ⟨j + 1 + k.val, by have := k.isLt; omega⟩) = fun k : Fin o => Φ ⟨j + k.succ.val, by have := k.isLt; simp only [Fin.val_succ]; omega⟩ :=
      funext fun k => congrArg Φ (Fin.ext (by simp only [Fin.val_succ]; omega))
    have e2 : (Transfers.pending (j + 1 + o) : Finset (Fin n)) = Transfers.pending (j + (o + 1)) := by congr 1; omega
    rw [e, e2]
    change iprop(Φ ⟨j, by omega⟩ ∗ _ ∗ _) = iprop((Φ ⟨j, by omega⟩ ∗ _) ∗ _)
    exact three_assoc _ _ _

/-- All `o + o` transfers are the first `o` and the last `o`. -/
theorem univ_halves {n : ℕ} (o : ℕ) (hn : n = o + o) (Φ : Fin n → sProp 𝕄) :
    bigSep Finset.univ Φ = iprop((bigSep Finset.univ fun k : Fin o => Φ ⟨k.val, by have := k.isLt; omega⟩)
      ∗ bigSep Finset.univ fun k : Fin o => Φ ⟨o + k.val, by have := k.isLt; omega⟩) := by
  rw [Transfers.bigSep_pending_zero Φ, pending_split Φ o 0 (by omega), pending_split Φ o (0 + o) (by omega)]
  have e0 : (Transfers.pending (0 + o + o) : Finset (Fin n)) = ∅ := by
    ext t; simp only [Transfers.pending, Finset.mem_filter, Finset.mem_univ, true_and, Finset.notMem_empty, iff_false]; have := t.isLt; omega
  have e1 : (fun k : Fin o => Φ ⟨0 + k.val, by have := k.isLt; omega⟩) = fun k : Fin o => Φ ⟨k.val, by have := k.isLt; omega⟩ :=
    funext fun k => congrArg Φ (Fin.ext (by simp))
  have e2 : (fun k : Fin o => Φ ⟨0 + o + k.val, by have := k.isLt; omega⟩) = fun k : Fin o => Φ ⟨o + k.val, by have := k.isLt; omega⟩ :=
    funext fun k => congrArg Φ (Fin.ext (by simp))
  rw [e0, bigSep_empty, e1, e2]
  congr 1
  exact BI.Entails.antisymm sep_emp.1 sep_emp.2

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- What row `j` of a gather hands back once it has landed: the destination's row written with the source's row the
    list names for it, the list's entry, and its piece of the source. -/
def rowBack (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
            ((dst.view.slice (s.rowRect hg.axis' j)).write (Elt F) fd (fun i => src.view.read (Elt F) fs (hg.rowIdx (r j) i)) Finset.univ))
        ∗ (offs.view.loc c ↦[{offs.view.emb (si.rowMajor.symm (Fin.cast hn.symm j))}]{qo} fo))
      ∗ (src.view.loc c ↦[src.view.set]{pieceOf q _ ho j} fs))

instance rowBack_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) :
    Storable (upEmb : UEmb _ 𝕄) (rowBack (Ix := Ix) (Name := Name) (U := U) (Lvl := Lvl) c src dst hg offs hn ho q qo fs fd fo r j) := by
  unfold rowBack; infer_instance

/-- Every row back is the destination written with the gather's payload, and the list's and the source's shares whole. -/
theorem rows_back (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    (bigSep Finset.univ (rowBack c src dst hg offs hn ho q qo fs fd fo r) : sProp 𝕄)
      ⊢ iprop((dst.view.loc c ↦[dst.view.set]{fullShare} (dst.view.write (Elt F) fd (gatherPayload hg (src.view.read (Elt F) fs) r) Finset.univ))
          ∗ (offs.view.loc c ↦[offs.view.set]{qo} fo) ∗ (src.view.loc c ↦[src.view.set]{q} fs)) := by
  have hW : ∀ j i, src.view.read (Elt F) fs (hg.rowIdx (r j) i)
      = gatherPayload hg (src.view.read (Elt F) fs) r ((s.rowRect hg.axis' j).emb i) := fun j i => by
    unfold gatherPayload; rw [Shape.Gathers.idx_rowRect_emb]
  have hen : Function.Bijective fun j : Fin (s.size hg.axis') => si.rowMajor.symm (Fin.cast hn.symm j) :=
    si.rowMajor.symm.bijective.comp (finCongr hn.symm).bijective
  have hrows := pointsTo_rows_write (Ix := Ix) (Name := Name) (U := U) (Lvl := Lvl) c dst.view hg.axis' fd
    (fun j i => src.view.read (Elt F) fs (hg.rowIdx (r j) i)) (gatherPayload hg (src.view.read (Elt F) fs) r) hW
  unfold rowBack
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]; · iapply hrows; iexact Hrows
  isplitl [Hoffs]; · iapply (Entails.of_eq (pointsTo_entries c offs.view _ hen qo fo).symm) $$ Hoffs
  iapply (Entails.of_eq (pointsTo_piecesOf (src.view.set) fs ho q).symm) $$ Hsrc

/-- Issuing a gather as the next `o` transfers of a batch (`o` its rows, `N` what each credits): from the destination
    outright, shares of the source and the list, and the batch at `j` issued, the run goes on with `j + o` issued,
    when what each row hands back is what the batch is to deliver at its place. -/
theorem issue [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hj : j + s.size hg.axis' ≤ n) (hu : u ≤ j * N)
    (hD : ∀ t : Fin (s.size hg.axis'),
      rowBack c src dst hg offs hn ho q qo fs fd fo (SparseCore.rows (offs.view.read (Elt F) fo) hn hin) t
        ⊢ D ⟨j + t.val, by have := t.isLt; omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  rw [SparseCore.enqueueIndirectGather_bind]
  let r : Fin (s.size hg.axis') → Fin (s₀.size hg.axis) := SparseCore.rows (offs.view.read (Elt F) fo) hn hin
  let rd : Fin (s.size hg.axis') → RowDma τ sig (Elt F) c.2 sem := fun j => gatherRow c src dst hg sem hsrc he hsp hr j (r j)
  let S : Stream nD τ sig (Elt F) :=
    Stream.issued c offs.view hn sem (fun j w => (SparseCore.rowOf (s₀.size hg.axis) w).map (gatherRow c src dst hg sem hsrc he hsp hr j)) 0
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (SparseCore.rowOf (s₀.size hg.axis) (offs.view.read (Elt F) fo (S.entry j))).map _ = _
    rw [SparseCore.rowOf_of_lt (hin _)]; rfl
  have hen : Function.Bijective S.entry :=
    si.rowMajor.symm.bijective.comp (finCongr hn.symm).bijective
  have hsum : ∑ t, (rd t).dst.view.dmaCredit = s.size hg.axis' * N := by
    rw [Finset.sum_congr rfl fun t _ => (hN t : (rd t).dst.view.dmaCredit = N), Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (Entails.of_eq (pending_split (fun t => ExclCount.count EC (γ t) 0) (s.size hg.axis') j hj)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hsum) $$ [Hd' Ho' Hs' Hγ]
  · have hrow : ∀ t, iprop(inv κ (Transfers.batchBody EC (c, SemLoc.dma sem) N D γ γ₀)
          ∗ ((((dst.view.loc c ↦[(dst.view.slice (s.rowRect hg.axis' t)).set]{fullShare} fd) ∗ S.heldEntry qo fo t)
          ∗ (src.view.loc c ↦[src.view.set]{pieceOf q _ ho t} fs)) ∗ ExclCount.count EC (γ ⟨j + t.val, by have := t.isLt; omega⟩) 0))
        ⊢ iprop(S.heldEntry qo fo t ∗ (S.heldEntry qo fo t -∗ rowRes c (rd t))) := fun t => by
      iintro ⟨#Hinv, ⟨⟨Hr, He⟩, Hsq⟩, Hγt⟩
      isplitl [He]; · iexact He
      iintro He
      unfold rowRes
      iexists pieceOf q _ ho t, fs, iprop((dst.view.loc c ↦[(dst.view.slice (s.rowRect hg.axis' t)).set]{fullShare} ((dst.view.slice (s.rowRect hg.axis' t)).write (Elt F) fd (fun i => src.view.read (Elt F) fs (hg.rowIdx (r t) i)) Finset.univ)) ∗ S.heldEntry qo fo t)
      isplitl [Hsq]; · iexact Hsq
      isplitl [Hr He]
      · iapply writeUpdate_frame
        isplitl [Hr]
        · iapply (pointsTo_writeUpdate c (v := dst.view.slice (s.rowRect hg.axis' t)) subset_rfl) $$ Hr
        · iexact He
      · have hc := Transfers.batch_creditUpdate EC (g := (c, SemLoc.dma sem)) (N := N) (D := D) (γ := γ) (γ₀ := γ₀) (ι := κ) ⟨j + t.val, by have := t.isLt; omega⟩ (hD t)
        have hamt : (rd t).dst.view.amount (SemLoc.dma sem) = N := hN t
        rw [hamt]
        iapply hc
        isplitr; · iexact Hinv
        iexact Hγt
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.GatherBatch
-- ==== Proof.ScSetup.lean ====
/-
  The SparseCore call of the kernel: thirty-two vector subcores (two SparseCores of sixteen), subcore `s` of core `c`
  being worker `2 * s + c`, each gathering the 160 rows of the table its stretch of the order names and writing them to
  its stretch of the result. This module fixes the launch's data: the algebra, what the call hands each worker (its
  stretch of the order, a share of the whole table, its rows of the result) and what it hands back (the rows gathered).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.GatherBatch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig (Λ₀ F) (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.nat
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra: the handshakes' rounds, the TensorCore pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The arrays and their stretches -/

abbrev tLoc (d : Dev nD) : Loc nD τ sig := (SparseCore.T d).loc main_v18
abbrev iLoc (d : Dev nD) : Loc nD τ sig := (SparseCore.T d).loc main_v22
abbrev oLoc (d : Dev nD) : Loc nD τ sig := (SparseCore.T d).loc main_v23

abbrev tV : Memref sig .scVector .hbm S5120x16 .f32 := Memref.whole main_v18_scv
abbrev iV : Memref sig .scVector .hbm S5120 .i32 := Memref.whole main_v22_scv
abbrev oV : Memref sig .scVector .hbm S5120x16 .f32 := Memref.whole main_v23_scv
abbrev sV : Memref sig .scVector .vmem S160 .i32 := Memref.whole cc0_scratch0
abbrev rV : Memref sig .scVector .vmem S160x16 .f32 := Memref.whole cc0_scratch1

theorem idiv : 32 ∣ S5120.size 0 := ⟨160, rfl⟩
theorem odiv : 32 ∣ S5120x16.size 0 := ⟨160, rfl⟩
abbrev irow (w : Fin 32) : Rect S5120 := Rect.part (s := S5120) (a₀ := 0) idiv w
abbrev orow (w : Fin 32) : Rect S5120x16 := Rect.part (s := S5120x16) (a₀ := 0) odiv w
abbrev iRowSet (w : Fin 32) : Finset S5120.Idx := ((iV).view.slice (irow w)).set
abbrev oRowSet (w : Fin 32) : Finset S5120x16.Idx := ((oV).view.slice (orow w)).set

/-- Worker `w`'s share of the table: one of thirty-two. -/
abbrev tq (w : Fin 32) : PosShare TreeShare := pieceOf fullShare 32 (by norm_num) w

/-- Subcore `s` of core `c` is worker `2 * s + c`. -/
def wid (c : Fin 2) (s : Fin 16) : Fin 32 := ⟨2 * s.val + c.val, by omega⟩

/-- Row `r`, column `f` of a table of 5120 rows of 16. -/
def at2 (r : Fin 5120) (f : Fin 16) : S5120x16.Idx := fun a => match a with | 0 => r | 1 => f
/-- Entry `r` of a list of 5120. -/
def at1 (r : Fin 5120) : S5120.Idx := fun a => match a with | 0 => r

theorem at2_eta (x : S5120x16.Idx) : at2 (x 0) (x 1) = x := by
  funext a; match a with | 0 => rfl | 1 => rfl
theorem at1_eta (x : S5120.Idx) : at1 (x 0) = x := by
  funext a; match a with | 0 => rfl

/-- THE GATHERED TABLE: row `i` is the row of the table the order's entry `i` names. -/
def gathered {d : Dev nD} (tb : Buf (Elt F) (tLoc d)) (od : Buf (Elt F) (iLoc d)) : Buf (Elt F) (oLoc d) :=
  fun x : S5120x16.Idx => tb (at2 (Fin.ofNat 5120 (od (at1 (x 0))).toNat) (x 1))

variable [FloatOps F]

/-! ## What the handshakes carry -/

section Carry

variable (tb : ∀ d : Dev nD, Buf (Elt F) (tLoc d)) (od : ∀ d : Dev nD, Buf (Elt F) (iLoc d)) (o0 : ∀ d : Dev nD, Buf (Elt F) (oLoc d))

/-- What worker `w` is handed: its stretch of the order, its share of the table, its rows of the result at `f`; what it
    hands back is the same at the gathered rows. -/
def job (d : Dev nD) (w : Fin 32) (f : Buf (Elt F) (oLoc d)) : sProp 𝕄 :=
  iprop((iLoc d ↦[iRowSet w]{fullShare} od d) ∗ (tLoc d ↦{tq w} tb d) ∗ oLoc d ↦[oRowSet w]{fullShare} f)

instance job_storable (d : Dev nD) (w : Fin 32) (f : Buf (Elt F) (oLoc d)) : BI.Storable (upEmb : UEmb _ 𝕄) (job tb od d w f) := by
  unfold job; infer_instance

/-- Each core is handed its sixteen workers' jobs. -/
def P : (K (F := F)).Pay (nD := nD) (Val := Elt F) (Name := ℕ) (U := UU) where
  st := fun q d c => match q with
    | 0 => bigSep Finset.univ fun i : Fin ((K (F := F)).nSub 0) => job tb od d (wid (Fin.cast nCore_zero c) (Fin.cast nSub_zero i)) (o0 d)
  dn := fun q d c => match q with
    | 0 => bigSep Finset.univ fun i : Fin ((K (F := F)).nSub 0) => job tb od d (wid (Fin.cast nCore_zero c) (Fin.cast nSub_zero i)) (gathered (tb d) (od d))
  go := fun q d c i => match q with
    | 0 => job tb od d (wid (Fin.cast nCore_zero c) (Fin.cast nSub_zero i)) (o0 d)
  td := fun q d c i => match q with
    | 0 => job tb od d (wid (Fin.cast nCore_zero c) (Fin.cast nSub_zero i)) (gathered (tb d) (od d))
  x := fun _ _ => iprop(emp)

instance P_storable : (P (F := F) tb od o0).IsStorable where
  st q d c := match q with
    | 0 => (inferInstance : BI.Storable (upEmb : UEmb _ 𝕄) (bigSep Finset.univ fun i : Fin ((K (F := F)).nSub 0) =>
      job tb od d (wid (Fin.cast nCore_zero c) (Fin.cast nSub_zero i)) (o0 d)))
  dn q d c := match q with
    | 0 => (inferInstance : BI.Storable (upEmb : UEmb _ 𝕄) (bigSep Finset.univ fun i : Fin ((K (F := F)).nSub 0) =>
      job tb od d (wid (Fin.cast nCore_zero c) (Fin.cast nSub_zero i)) (gathered (tb d) (od d))))
  go q d c i := match q with
    | 0 => job_storable tb od d _ _
  td q d c i := match q with
    | 0 => job_storable tb od d _ _

/-- The order names rows of the table. -/
def InRange : Prop := ∀ (d : Dev nD) (j : S5120.Idx), (od d j).toNat < 5120

end Carry

end Cert.Proof.Sc

end
-- ==== Proof.Nms.lean ====
/- Greedy suppression as plain combinatorics: positions in the order of decreasing score, a relation
   `G i j` (the boxes at `i` and `j` overlap too much), and the state after the first `n` positions have
   been visited. Nothing here mentions a program. -/
module

public import Mathlib.Data.Finset.Basic
public import Mathlib.Tactic.Common

@[expose] public section

namespace Cert.Proof.Nms

/-- One visit: position `i`, if still kept, removes every later position that overlaps it. -/
def step (G : ℕ → ℕ → Bool) (K : ℕ → Bool) (i j : ℕ) : Bool := K j && !(K i && G i j && decide (i < j))

/-- The state after the first `n` positions have been visited, starting from all kept. -/
def run (G : ℕ → ℕ → Bool) : ℕ → ℕ → Bool
  | 0 => fun _ => true
  | n + 1 => step G (run G n) n

/-- Whether position `j` is kept in the end. -/
def fin (G : ℕ → ℕ → Bool) (j : ℕ) : Bool := run G j j

variable {G : ℕ → ℕ → Bool}

theorem run_zero (j : ℕ) : run G 0 j = true := rfl

/-- Visits from `j` on leave position `j` as it is. -/
theorem run_of_le {n j : ℕ} (h : j ≤ n) : run G n j = fin G j := by
  induction n with
  | zero => obtain rfl : j = 0 := by omega
            rfl
  | succ n ih =>
    rcases Nat.lt_or_ge n j with hj | hj
    · obtain rfl : j = n + 1 := by omega
      rfl
    · rw [← ih hj]
      show step G (run G n) n j = _
      simp [step, show ¬ n < j by omega]

/-- Position `j` is kept after `n` visits exactly when no kept earlier position below `n` overlaps it. -/
theorem run_iff (n j : ℕ) : run G n j = true ↔ ∀ i, i < n → i < j → fin G i = true → G i j = false := by
  induction n with
  | zero => simp [run]
  | succ n ih =>
    have e : run G (n + 1) j = step G (run G n) n j := rfl
    rw [e]
    unfold step
    rw [Bool.and_eq_true, ih, run_of_le (le_refl n)]
    constructor
    · rintro ⟨h1, h2⟩ i hi hij hf
      rcases Nat.lt_or_ge i n with h | h
      · exact h1 i h hij hf
      · obtain rfl : i = n := by omega
        simpa [hf, hij] using h2
    · intro h
      refine ⟨fun i hi hij hf => h i (by omega) hij hf, ?_⟩
      rcases Bool.eq_false_or_eq_true (fin G n) with hf | hf
      · by_cases hij : n < j
        · simp [h n (by omega) hij hf]
        · simp [hij]
      · simp [hf]

theorem fin_iff (j : ℕ) : fin G j = true ↔ ∀ i, i < j → fin G i = true → G i j = false := by
  unfold fin
  rw [run_iff]
  exact ⟨fun h i hij => h i hij hij, fun h i hij _ => h i hij⟩

/-- One application of the block's own equation: `A` the state on entry, `x` the guess. -/
def blk (B o : ℕ) (G : ℕ → ℕ → Bool) (A x : Fin B → Bool) (j : Fin B) : Bool :=
  A j && decide (∀ i : Fin B, ¬ (x i = true ∧ G (o + i) (o + j) = true ∧ i < j))

/-- The state on entry to the block at `o` (all positions below `o` visited), and the block's answer. -/
def inn (B o : ℕ) (G : ℕ → ℕ → Bool) (j : Fin B) : Bool := run G o (o + j)
def ans (B o : ℕ) (G : ℕ → ℕ → Bool) (j : Fin B) : Bool := fin G (o + j)

theorem ans_iff {B o : ℕ} (j : Fin B) : ans B o G j = true ↔
    inn B o G j = true ∧ ∀ i : Fin B, ¬ (ans B o G i = true ∧ G (o + i) (o + j) = true ∧ i < j) := by
  unfold ans inn
  rw [fin_iff, run_iff]
  constructor
  · intro h
    refine ⟨fun i hi hij hf => h i hij hf, fun i ⟨hf, hg, hij⟩ => ?_⟩
    have := h (o + i) (by have := Fin.lt_def.mp hij; omega) hf
    rw [hg] at this; exact Bool.noConfusion this
  · rintro ⟨h1, h2⟩ i hij hf
    rcases Nat.lt_or_ge i o with h | h
    · exact h1 i h hij hf
    · have hlt : i - o < B := by have := j.2; omega
      have := h2 ⟨i - o, hlt⟩
      rw [show o + (⟨i - o, hlt⟩ : Fin B).val = i by show o + (i - o) = i; omega] at this
      by_contra hg
      rw [Bool.not_eq_false] at hg
      exact this ⟨hf, hg, by rw [Fin.lt_def]; show i - o < j.val; omega⟩

/-- If the guess is right on the first `t` entries, one application is right on the first `t + 1`. -/
theorem blk_agree {B o t : ℕ} {x : Fin B → Bool} (h : ∀ j : Fin B, j.val < t → x j = ans B o G j) :
    ∀ j : Fin B, j.val < t + 1 → blk B o G (inn B o G) x j = ans B o G j := by
  intro j hj
  rw [Bool.eq_iff_iff, ans_iff]
  unfold blk
  rw [Bool.and_eq_true, decide_eq_true_iff]
  have e (i : Fin B) : (x i = true ∧ G (o + i) (o + j) = true ∧ i < j) ↔ (ans B o G i = true ∧ G (o + i) (o + j) = true ∧ i < j) := by
    constructor <;> rintro ⟨h1, h2, h3⟩ <;> refine ⟨?_, h2, h3⟩ <;> have := h i (by have := Fin.lt_def.mp h3; omega)
    · rw [← this]; exact h1
    · rw [this]; exact h1
  exact and_congr Iff.rfl (forall_congr' fun i => not_congr (e i))

/-- A guess that one application leaves alone is the answer. -/
theorem blk_fix {B o : ℕ} {x : Fin B → Bool} (h : blk B o G (inn B o G) x = x) : x = ans B o G := by
  have key : ∀ t : ℕ, ∀ j : Fin B, j.val < t → x j = ans B o G j := by
    intro t
    induction t with
    | zero => intro j hj; omega
    | succ t ih => intro j hj; rw [← h]; exact blk_agree ih j hj
  funext j
  exact key (j.val + 1) j (Nat.lt_succ_self _)

theorem blk_ans {B o : ℕ} : blk B o G (inn B o G) (ans B o G) = ans B o G :=
  funext fun j => blk_agree (t := j.val) (fun _ _ => rfl) j (Nat.lt_succ_self _)

/-- What a block does to a position beyond it: it stays exactly when no kept entry of the block overlaps it. -/
theorem run_block {B o j : ℕ} (hj : o + B ≤ j) : run G (o + B) j
    = (run G o j && decide (∀ i : Fin B, ¬ (ans B o G i = true ∧ G (o + i) j = true))) := by
  rw [Bool.eq_iff_iff, Bool.and_eq_true, decide_eq_true_iff, run_iff, run_iff]
  constructor
  · intro h
    refine ⟨fun i hi hij hf => h i (by omega) hij hf, fun i ⟨hf, hg⟩ => ?_⟩
    have := h (o + i) (by omega) (by omega) hf
    rw [hg] at this; exact Bool.noConfusion this
  · rintro ⟨h1, h2⟩ i hi hij hf
    rcases Nat.lt_or_ge i o with h | h
    · exact h1 i h hij hf
    · have hlt : i - o < B := by omega
      have := h2 ⟨i - o, hlt⟩
      rw [show o + (⟨i - o, hlt⟩ : Fin B).val = i by show o + (i - o) = i; omega] at this
      by_contra hg
      rw [Bool.not_eq_false] at hg
      exact this ⟨by unfold ans; rw [show o + (⟨i - o, hlt⟩ : Fin B).val = i by show o + (i - o) = i; omega]; exact hf, hg⟩

/-- The states depend on the relation at earlier positions only. -/
theorem run_congr {G' : ℕ → ℕ → Bool} {N : ℕ} (h : ∀ i j, i < j → j < N → G i j = G' i j) :
    ∀ n j, j < N → run G n j = run G' n j := by
  have hf : ∀ j, j < N → fin G j = fin G' j := by
    intro j
    induction j using Nat.strong_induction_on with
    | _ j ih =>
      intro hj
      rw [Bool.eq_iff_iff, fin_iff, fin_iff]
      exact forall_congr' fun i => forall_congr' fun hij => by rw [ih i hij (by omega), h i j hij hj]
  intro n j hj
  rw [Bool.eq_iff_iff, run_iff, run_iff]
  exact forall_congr' fun i => forall_congr' fun _ => forall_congr' fun hij => by rw [hf i (by omega), h i j hij hj]

end Cert.Proof.Nms

end
-- ==== Proof.Payload.lean ====
/- What the pure expressions of the suppression kernel compute at the extended reals, on arrays that hold
   0 and 1: each is an array of 0 and 1 again, named by a Boolean function. -/
module

public import proofs.«01_k».proof.Proof.Gen.KernelIdeal.Skeleton
public import proofs.«01_k».proof.Proof.Nms
public import Idealize.ShloMosaic.Lib.Pointwise

@[expose] public section

set_option maxRecDepth 16384

noncomputable section

namespace Cert.Proof

open Cert.KernelIdeal Cert.KernelIdeal.Gen Idealize.ShloMosaic

/-- A truth value as the number the kernel keeps for it. -/
def ind (b : Bool) : EReal := if b then 1 else 0

theorem ind_mul (a b : Bool) : ind a * ind b = ind (a && b) := by
  cases a <;> cases b <;> simp [ind]

theorem ind_eq_zero (a : Bool) : ind a = 0 ↔ a = false := by cases a <;> simp [ind]

theorem ind_nonneg (a : Bool) : 0 ≤ ind a := by cases a <;> simp [ind]

theorem ind_inj {a b : Bool} (h : ind a = ind b) : a = b := by
  cases a <;> cases b <;> simp [ind] at h ⊢

/-- A comparison's bit, widened and converted, is the number of its truth value. -/
theorem sitofp_bit (b : Bool) : (FloatOps.sitofp (F := Ideal) .f32 (BitVec.setWidth 32 (BitVec.ofBool b)) : EReal) = ind b := by
  show ((BitVec.toInt (BitVec.setWidth 32 (BitVec.ofBool b)) : ℝ) : EReal) = ind b
  cases b <;> simp [ind]

/-- A sum of numbers of truth values vanishes exactly when all of them are false. -/
theorem sum_ind_eq_zero {n : ℕ} (b : Fin n → Bool) : (∑ x, ind (b x)) = 0 ↔ ∀ x, b x = false := by
  rw [Finset.sum_eq_zero_iff_of_nonneg fun x _ => ind_nonneg (b x)]
  exact ⟨fun h x => (ind_eq_zero _).mp (h x (Finset.mem_univ x)), fun h x _ => (ind_eq_zero _).mpr (h x)⟩

/-- Whether the overlap of two boxes, over the area of their union, exceeds the threshold; each box by its two corners
    and its area. -/
def over (x1a y1a x2a y2a aa x1b y1b x2b y2b ab : EReal) : Bool :=
  decide (Ideal.ofBits FTy.f32 1053609165#32 <
    Ideal.div (max (min x2a x2b - max x1a x1b) 0 * max (min y2a y2b - max y1a y1b) 0)
      (aa + ab - max (min x2a x2b - max x1a x1b) 0 * max (min y2a y2b - max y1a y1b) 0 + Ideal.ofBits FTy.f32 897988541#32))

/-- A table of features, a row per position: the corners, the area, the score, two unused columns. -/
abbrev Table : Type := ℕ → Fin 8 → EReal

/-- Whether the boxes at two positions of a table overlap too much. -/
def rel (T : Table) (i j : ℕ) : Bool :=
  over (T i 0) (T i 1) (T i 2) (T i 3) (T i 4) (T j 0) (T j 1) (T j 2) (T j 3) (T j 4)

/-- Block `k` of the table as the kernel reads it by rows, and by columns. -/
def rowsBlk (T : Table) (k : ℕ) : Vec Ideal S1x512x8 .f32 := fun i => T (512 * k + (i 1 : Fin 512).val) (i 2)
def colsBlk (T : Table) (k : ℕ) : Vec Ideal S1x8x512 .f32 := fun i => T (512 * k + (i 2 : Fin 512).val) (i 1)

/-- A block of truth values as a row, and as the array's block. -/
def keepRow (b : Fin 512 → Bool) : FVec Ideal S1x512 .f32 := fun i => ind (b (i 1))
def keepVec (b : Fin 512 → Bool) : Vec Ideal S1x1x512 .f32 := fun i => ind (b (i 2))

theorem keepRow_inj {a b : Fin 512 → Bool} (h : keepRow a = keepRow b) : a = b :=
  funext fun j => ind_inj (congrFun h (ix2 0 j))

theorem ext_row {f g : S1x512.Idx → EReal} (h : ∀ j : Fin 512, f (ix2 0 j) = g (ix2 0 j)) : f = g := by
  funext j
  have e : j = ix2 (0 : Fin 1) (j 1 : Fin 512) := by
    rw [eq_ix2 j]; congr 1; exact Subsingleton.elim _ _
  rw [e]; exact h _

theorem ext_vec {f g : S1x1x512.Idx → EReal} (h : ∀ j : Fin 512, f (ix3 0 0 j) = g (ix3 0 0 j)) : f = g := by
  funext j
  have e : j = ix3 (0 : Fin 1) (0 : Fin 1) (j 2 : Fin 512) := by
    rw [eq_ix3 j]; congr 1 <;> exact Subsingleton.elim _ _
  rw [e]; exact h _

theorem pay37_keep (b : Fin 512 → Bool) : k1_pay37 (F := Ideal) (keepVec b) = keepRow b := by
  refine ext_row fun j => ?_
  pointwise [k1_pay37]
  rfl

theorem pay38_keep (b : Fin 512 → Bool) : k1_pay38 (F := Ideal) (keepRow b) = keepVec b := by
  refine ext_vec fun j => ?_
  pointwise [k1_pay38]
  rfl

/-- The comparison mask of a block against itself: 1 where the boxes overlap too much and the row comes first. -/
def maskOf (T : Table) (k : ℕ) : FVec Ideal S512x512 .f32 := k1_pay36 (k1_pay2 (F := Ideal)) (k1_pay35 (rowsBlk T k) (colsBlk T k))

theorem cmpi_slt_lt (i j : Fin 512) : IntOp.cmpi CmpIPredicate.slt (BitVec.ofNat 32 i.val) (BitVec.ofNat 32 j.val) = BitVec.ofBool (decide (i < j)) := by
  show BitVec.ofBool (BitVec.slt _ _) = _
  congr 1
  rw [BitVec.slt_eq_decide]
  have hi := i.2; have hj := j.2
  rw [BitVec.toInt_eq_toNat_of_lt (by rw [BitVec.toNat_ofNat]; omega), BitVec.toInt_eq_toNat_of_lt (by rw [BitVec.toNat_ofNat]; omega),
    BitVec.toNat_ofNat, BitVec.toNat_ofNat]
  rw [decide_eq_decide, Fin.lt_def]
  omega

theorem maskOf_apply (T : Table) (k : ℕ) (i j : Fin 512) :
    maskOf T k (ix2 i j) = ind (rel T (512 * k + i.val) (512 * k + j.val) && decide (i < j)) := by
  unfold maskOf
  pointwise [k1_pay36, k1_pay35, k1_pay30, k1_pay31, k1_pay32, k1_pay33, k1_pay34, k1_pay29, k1_pay2]
  rw [cmpi_slt_lt, sitofp_bit, sitofp_bit, ind_mul]
  rfl

theorem sup_blk (T : Table) (k : ℕ) (x : Fin 512 → Bool) (j : Fin 512) :
    decide ((∑ i : Fin 512, keepRow x (ix2 0 i) * maskOf T k (ix2 i j)) = 0)
      = decide (∀ i : Fin 512, ¬ (x i = true ∧ rel T (512 * k + i.val) (512 * k + j.val) = true ∧ i < j)) := by
  rw [decide_eq_decide]
  have e : (∑ i : Fin 512, keepRow x (ix2 0 i) * maskOf T k (ix2 i j))
      = ∑ i : Fin 512, ind (x i && (rel T (512 * k + i.val) (512 * k + j.val) && decide (i < j))) :=
    Finset.sum_congr rfl fun i _ => by
      rw [maskOf_apply, show keepRow x (ix2 0 i) = ind (x i) from rfl, ind_mul]
  rw [e, sum_ind_eq_zero]
  refine forall_congr' fun i => ?_
  cases x i <;> cases rel T (512 * k + i.val) (512 * k + j.val) <;> simp

/-- One application of the block's equation. -/
theorem pay4_keep (T : Table) (k : ℕ) (A x : Fin 512 → Bool) :
    k1_pay4 (maskOf T k) (keepRow A) (keepRow x) = keepRow (Nms.blk 512 (512 * k) (rel T) A x) := by
  refine ext_row fun j => ?_
  pointwise [k1_pay4]
  rw [sup_blk, sitofp_bit, show keepRow A (ix2 0 j) = ind (A j) from rfl, ind_mul]
  show _ = ind (Nms.blk 512 (512 * k) (rel T) A x j)
  unfold Nms.blk
  congr 2
  exact decide_eq_decide.mpr Iff.rfl

theorem pay5_keep (T : Table) (k : ℕ) (A x : Fin 512 → Bool) :
    k1_pay5 (maskOf T k) (keepRow A) (keepRow x)
      = keepRow (Nms.blk 512 (512 * k) (rel T) A (Nms.blk 512 (512 * k) (rel T) A x)) := by
  have e : k1_pay5 (maskOf T k) (keepRow A) (keepRow x) = k1_pay4 (maskOf T k) (keepRow A) (k1_pay4 (maskOf T k) (keepRow A) (keepRow x)) := rfl
  rw [e, pay4_keep, pay4_keep]

theorem absf_ind_sub (a b : Bool) : (FloatOps.absf (F := Ideal) (φ := .f32) (ind a - ind b) : EReal) = ind (a != b) := by
  show max (ind a - ind b) (-(ind a - ind b)) = _
  have e : ((1 : EReal) - 1) = 0 := EReal.sub_self (EReal.coe_ne_top 1) (EReal.coe_ne_bot 1)
  have e' : ((-1 : EReal)) ≤ 1 := by
    have : ((-1 : ℝ) : EReal) ≤ ((1 : ℝ) : EReal) := EReal.coe_le_coe_iff.mpr (by norm_num)
    simpa using this
  cases a <;> cases b <;> simp [ind, e, e']

/-- The loop's test: whether the second application changed anything. -/
theorem pay6_keep (T : Table) (k : ℕ) (A x : Fin 512 → Bool) :
    Scalar.cmpf .ogt (k1_pay6 (maskOf T k) (keepRow A) (keepRow x)) (Scalar.ofBits (F := Ideal) .f32 0x00000000#32)
      = BitVec.ofBool (decide (Nms.blk 512 (512 * k) (rel T) A (Nms.blk 512 (512 * k) (rel T) A x) ≠ Nms.blk 512 (512 * k) (rel T) A x)) := by
  have e : k1_pay6 (maskOf T k) (keepRow A) (keepRow x)
      = ∑ j : Fin 512, ind (Nms.blk 512 (512 * k) (rel T) A (Nms.blk 512 (512 * k) (rel T) A x) j != Nms.blk 512 (512 * k) (rel T) A x j) := by
    unfold k1_pay6
    pointwise []
    rw [pay4_keep, pay5_keep]
    rw [Fintype.sum_unique]
    refine Finset.sum_congr rfl fun j _ => ?_
    exact absf_ind_sub _ _
  rw [e]
  generalize Nms.blk 512 (512 * k) (rel T) A x = y
  generalize Nms.blk 512 (512 * k) (rel T) A y = z
  show BitVec.ofBool (decide ((Ideal.ofBits .f32 0x00000000#32 : EReal) < _)) = _
  congr 1
  rw [decide_eq_decide, Ideal.ofBits_zero_f32]
  have h0 : 0 ≤ ∑ j : Fin 512, ind (z j != y j) := Finset.sum_nonneg fun j _ => ind_nonneg _
  rw [lt_iff_le_and_ne]
  have h := sum_ind_eq_zero fun j : Fin 512 => z j != y j
  constructor
  · rintro ⟨-, h1⟩ rfl
    exact h1 (h.mpr fun j => by simp).symm
  · intro hzy
    refine ⟨h0, fun h1 => hzy (funext fun j => ?_)⟩
    simpa using h.mp h1.symm j

/-- What a block `kv` does to a later block's truth values `a`. -/
def sup (T : Table) (k b : ℕ) (kv a : Fin 512 → Bool) (j : Fin 512) : Bool :=
  a j && decide (∀ i : Fin 512, ¬ (kv i = true ∧ rel T (512 * k + i.val) (512 * b + j.val) = true))

theorem sup_sum (T : Table) (k b : ℕ) (kv : Fin 512 → Bool) (j : Fin 512) :
    decide ((∑ i : Fin 512, keepRow kv (ix2 0 i) * ind (rel T (512 * k + i.val) (512 * b + j.val))) = 0)
      = decide (∀ i : Fin 512, ¬ (kv i = true ∧ rel T (512 * k + i.val) (512 * b + j.val) = true)) := by
  rw [decide_eq_decide]
  have e : (∑ i : Fin 512, keepRow kv (ix2 0 i) * ind (rel T (512 * k + i.val) (512 * b + j.val)))
      = ∑ i : Fin 512, ind (kv i && rel T (512 * k + i.val) (512 * b + j.val)) :=
    Finset.sum_congr rfl fun i _ => ind_mul _ _
  rw [e, sum_ind_eq_zero]
  refine forall_congr' fun i => ?_
  cases kv i <;> simp

/-- The last step of every variant of the suppression: reading the sum's test and multiplying. -/
theorem sup_close (T : Table) (k b : ℕ) (kv a : Fin 512 → Bool) (j : Fin 512) :
    (keepVec a (ix3 0 0 j) * FloatOps.sitofp (F := Ideal) .f32 (BitVec.setWidth 32 (BitVec.ofBool (decide
        ((∑ i : Fin 512, keepRow kv (ix2 0 i) * FloatOps.sitofp (F := Ideal) .f32 (BitVec.setWidth 32 (BitVec.ofBool (rel T (512 * k + i.val) (512 * b + j.val))))) = 0)))) : EReal)
      = keepVec (sup T k b kv a) (ix3 0 0 j) := by
  simp only [sitofp_bit]
  rw [sup_sum, show keepVec a (ix3 0 0 j) = ind (a j) from rfl, ind_mul]
  rfl

/-- One later block at a time. -/
theorem pay27_keep (T : Table) (k b : ℕ) (kv a : Fin 512 → Bool) :
    k1_pay27 (k1_pay30 (rowsBlk T k)) (k1_pay31 (rowsBlk T k)) (k1_pay32 (rowsBlk T k)) (k1_pay33 (rowsBlk T k)) (k1_pay34 (rowsBlk T k))
      (keepRow kv) (colsBlk T b) (keepVec a) = keepVec (sup T k b kv a) := by
  refine ext_vec fun j => ?_
  rw [← sup_close]
  pointwise [k1_pay27, k1_pay30, k1_pay31, k1_pay32, k1_pay33, k1_pay34, k1_pay29]
  rfl

/-- The four later blocks of a group. -/
theorem pay7_keep (T : Table) (k b : ℕ) (kv a : Fin 512 → Bool) :
    k1_pay8 (k1_pay7 (k1_pay30 (rowsBlk T k)) (k1_pay31 (rowsBlk T k)) (k1_pay32 (rowsBlk T k)) (k1_pay33 (rowsBlk T k)) (k1_pay34 (rowsBlk T k))
      (keepRow kv) (colsBlk T b) (keepVec a)) = keepVec (sup T k b kv a) := by
  refine ext_vec fun j => ?_
  rw [← sup_close]
  pointwise [k1_pay7, k1_pay8, k1_pay30, k1_pay31, k1_pay32, k1_pay33, k1_pay34, k1_pay29]
  rfl

theorem pay10_keep (T : Table) (k b : ℕ) (kv a : Fin 512 → Bool) :
    k1_pay11 (k1_pay9 (keepVec a)) (k1_pay10 (k1_pay30 (rowsBlk T k)) (k1_pay31 (rowsBlk T k)) (k1_pay32 (rowsBlk T k)) (k1_pay33 (rowsBlk T k)) (k1_pay34 (rowsBlk T k))
      (keepRow kv) (colsBlk T b)) = keepVec (sup T k b kv a) := by
  refine ext_vec fun j => ?_
  rw [← sup_close]
  pointwise [k1_pay11, k1_pay9, k1_pay10, k1_pay30, k1_pay31, k1_pay32, k1_pay33, k1_pay34, k1_pay29]
  rfl

theorem pay13_keep (T : Table) (k b : ℕ) (kv a : Fin 512 → Bool) :
    k1_pay14 (k1_pay12 (keepVec a)) (k1_pay13 (k1_pay30 (rowsBlk T k)) (k1_pay31 (rowsBlk T k)) (k1_pay32 (rowsBlk T k)) (k1_pay33 (rowsBlk T k)) (k1_pay34 (rowsBlk T k))
      (keepRow kv) (colsBlk T b)) = keepVec (sup T k b kv a) := by
  refine ext_vec fun j => ?_
  rw [← sup_close]
  pointwise [k1_pay14, k1_pay12, k1_pay13, k1_pay30, k1_pay31, k1_pay32, k1_pay33, k1_pay34, k1_pay29]
  rfl

theorem pay16_keep (T : Table) (k b : ℕ) (kv a : Fin 512 → Bool) :
    k1_pay39 (k1_pay15 (keepVec a)) (k1_pay16 (k1_pay30 (rowsBlk T k)) (k1_pay31 (rowsBlk T k)) (k1_pay32 (rowsBlk T k)) (k1_pay33 (rowsBlk T k)) (k1_pay34 (rowsBlk T k))
      (keepRow kv) (colsBlk T b)) = keepVec (sup T k b kv a) := by
  refine ext_vec fun j => ?_
  rw [← sup_close]
  pointwise [k1_pay39, k1_pay15, k1_pay16, k1_pay30, k1_pay31, k1_pay32, k1_pay33, k1_pay34, k1_pay29]
  rfl

/-- The score's test: whether the score column exceeds its threshold. -/
def scored (s : EReal) : Bool := decide (Ideal.ofBits FTy.f32 1050253722#32 < s)

theorem pay3_keep (T : Table) (b : ℕ) (a : Fin 512 → Bool) :
    k1_pay3 (F := Ideal) (keepVec a) (colsBlk T b) = keepVec fun j => a j && scored (T (512 * b + j.val) 5) := by
  refine ext_vec fun j => ?_
  pointwise [k1_pay3]
  rw [sitofp_bit, show keepVec a (ix3 0 0 j) = ind (a j) from rfl, ind_mul]
  rfl

end Cert.Proof

end
-- ==== Proof.NmsArr.lean ====
/- The suppression kernel's arrays: the loads of a block, and the store of one, in terms of a table of features and of
   Boolean functions; where each trip of the kernel's loops reads and writes. -/
module

public import proofs.«01_k».proof.Proof.Payload
public import Idealize.ShloMosaic.Lib.VecWindow
public import Idealize.ShloMosaic.Lib.Pipeline.Value

@[expose] public section

set_option maxRecDepth 16384

noncomputable section

namespace Cert.Proof

open Cert.KernelIdeal Cert.KernelIdeal.Gen Idealize.ShloMosaic

/-- The whole arrays: the table by rows, the table by columns, and the blocks of truth values. -/
def rowsArr (T : Table) : Vec Ideal S10x512x8 .f32 := fun i => T (512 * (i 0 : Fin 10).val + (i 1 : Fin 512).val) (i 2)
def colsArr (T : Table) : Vec Ideal S10x8x512 .f32 := fun i => T (512 * (i 0 : Fin 10).val + (i 2 : Fin 512).val) (i 1)
def keepArr (K : ℕ → Fin 512 → Bool) : Vec Ideal S10x1x512 .f32 := fun i => ind (K (i 0 : Fin 10).val (i 2))

theorem fin1_val (z : Fin 1) : z.val = 0 := by omega

section Loads

variable {off : Fin 3 → ℕ} {b : ℕ}

theorem load_rows (T : Table) (inb : ∀ a, off a + S1x512x8.size a ≤ S10x512x8.size a) (h : off = ![b, 0, 0]) :
    (Memref.whole cc1_stg0_0).view.readAt (Elt Ideal) (Rect.unit (s := S10x512x8) off S1x512x8.size inb).toLoadRect (rowsArr T)
      = rowsBlk T b := by
  subst h
  funext y
  show T (512 * (b + 1 * (y 0 : Fin 1).val) + (0 + 1 * (y 1 : Fin 512).val)) _ = T (512 * b + (y 1 : Fin 512).val) (y 2)
  have h0 : (y 0 : Fin 1).val = 0 := fin1_val (y 0)
  congr 1
  · rw [h0]; omega
  · exact Fin.ext (by show 0 + 1 * (y 2 : Fin 8).val = (y 2 : Fin 8).val; omega)

theorem load_cols (T : Table) (inb : ∀ a, off a + S1x8x512.size a ≤ S10x8x512.size a) (h : off = ![b, 0, 0]) :
    (Memref.whole cc1_stg1_0).view.readAt (Elt Ideal) (Rect.unit (s := S10x8x512) off S1x8x512.size inb).toLoadRect (colsArr T)
      = colsBlk T b := by
  subst h
  funext y
  show T (512 * (b + 1 * (y 0 : Fin 1).val) + (0 + 1 * (y 2 : Fin 512).val)) _ = T (512 * b + (y 2 : Fin 512).val) (y 1)
  have h0 : (y 0 : Fin 1).val = 0 := fin1_val (y 0)
  congr 1
  · rw [h0]; omega
  · exact Fin.ext (by show 0 + 1 * (y 1 : Fin 8).val = (y 1 : Fin 8).val; omega)

theorem load_keep (K : ℕ → Fin 512 → Bool) (inb : ∀ a, off a + S1x1x512.size a ≤ S10x1x512.size a) (h : off = ![b, 0, 0]) :
    (Memref.whole cc1_stg2_0).view.readAt (Elt Ideal) (Rect.unit (s := S10x1x512) off S1x1x512.size inb).toLoadRect (keepArr K)
      = keepVec (K b) := by
  subst h
  funext y
  show ind (K (b + 1 * (y 0 : Fin 1).val) _) = ind (K b (y 2))
  have h0 : (y 0 : Fin 1).val = 0 := fin1_val (y 0)
  congr 2
  · rw [h0]; omega
  · exact Fin.ext (by show 0 + 1 * (y 2 : Fin 512).val = (y 2 : Fin 512).val; omega)

theorem store_keep (K : ℕ → Fin 512 → Bool) (v : Fin 512 → Bool)
    (inb : ∀ a, off a + S1x1x512.size a ≤ S10x1x512.size a) (h : off = ![b, 0, 0]) :
    ((Memref.whole cc1_stg2_0).access (Rect.unit (s := S10x1x512) off S1x1x512.size inb) : View sig .tc _ _ _).write (Elt Ideal) (keepArr K) (keepVec v) Finset.univ
      = keepArr (Function.update K b v) := by
  subst h
  funext i
  by_cases hi : (i 0 : Fin 10).val = b
  · have e : i = ((Memref.whole cc1_stg2_0).access (Rect.unit (s := S10x1x512) ![b, 0, 0] S1x1x512.size inb) : View sig .tc _ _ _).emb (ix3 (0 : Fin 1) (0 : Fin 1) (i 2 : Fin 512)) := by
      funext a
      refine Fin.ext ?_
      fin_cases a
      · show (i 0 : Fin 10).val = b + 1 * 0
        omega
      · show (i 1 : Fin 1).val = 0 + 1 * 0
        exact (fin1_val (i 1)).trans rfl
      · show (i 2 : Fin 512).val = 0 + 1 * (i 2 : Fin 512).val
        omega
    rw [e, View.write_emb_of_mem _ _ (Finset.mem_univ _), ← e]
    show ind (v (i 2)) = ind (Function.update K b v (i 0 : Fin 10).val (i 2))
    rw [hi, Function.update_self]
  · rw [View.write_of_not_mem]
    · show ind (K _ _) = ind (Function.update K b v (i 0 : Fin 10).val (i 2))
      rw [Function.update_of_ne hi]
    · intro hm
      obtain ⟨y, -, e⟩ := Finset.mem_map.mp hm
      apply hi
      rw [← e]
      show b + 1 * (y 0 : Fin 1).val = b
      have h0 : (y 0 : Fin 1).val = 0 := fin1_val (y 0)
      rw [h0]; omega

end Loads

/-! ## Where the loops read and write -/

theorem t1_trips : k1_t1_loop.trips = 10 := by decide
theorem t6_trips : k1_t6_loop.trips = 10 := by decide
theorem t2_trips (t : Fin k1_t1_loop.trips) : (k1_t2_loop t).trips = (9 - t.val) / 4 := by revert t; decide
theorem t3_trips (t : Fin k1_t1_loop.trips) : (k1_t3_loop t).trips = 0 := by revert t; decide
theorem t4_trips (t : Fin k1_t1_loop.trips) : (k1_t4_loop t).trips = (9 - t.val) % 4 := by revert t; decide
theorem t5_trips (t : Fin k1_t1_loop.trips) : (k1_t5_loop t).trips = 0 := by revert t; decide

theorem off1 (t : Fin k1_t1_loop.trips) : k1_off1 t = ![t.val, 0, 0] := by revert t; decide
theorem off2 (t : Fin k1_t1_loop.trips) : k1_off2 t = ![t.val, 0, 0] := by revert t; decide
theorem off3 (t : Fin k1_t1_loop.trips) : k1_off3 t = ![t.val, 0, 0] := by revert t; decide
theorem off4 (t : Fin k1_t1_loop.trips) (u : Fin (k1_t2_loop t).trips) (r : Fin 4) :
    k1_off4 t u (BitVec.ofNat 32 r.val) = ![t.val + 1 + 4 * u.val + r.val, 0, 0] := by revert r u; revert t; decide
theorem off5 (t : Fin k1_t1_loop.trips) (u : Fin (k1_t2_loop t).trips) (r : Fin 4) :
    k1_off5 t u (BitVec.ofNat 32 r.val) = ![t.val + 1 + 4 * u.val + r.val, 0, 0] := by revert r u; revert t; decide
theorem off8 (t : Fin k1_t1_loop.trips) (u : Fin (k1_t4_loop t).trips) :
    k1_off8 t u = ![t.val + 1 + 4 * ((9 - t.val) / 4) + u.val, 0, 0] := by revert u; revert t; decide
theorem off9 (t : Fin k1_t1_loop.trips) (u : Fin (k1_t4_loop t).trips) :
    k1_off9 t u = ![t.val + 1 + 4 * ((9 - t.val) / 4) + u.val, 0, 0] := by revert u; revert t; decide
theorem off12 (t : Fin k1_t6_loop.trips) : k1_off12 t = ![t.val, 0, 0] := by revert t; decide
theorem off13 (t : Fin k1_t6_loop.trips) : k1_off13 t = ![t.val, 0, 0] := by revert t; decide

end Cert.Proof

end
-- ==== Proof.NmsStep.lean ====
/- The Boolean states of the suppression kernel: what the blocks hold before each trip of each loop, and how one
   trip's store takes one state to the next. -/
module

public import proofs.«01_k».proof.Proof.NmsArr

@[expose] public section

noncomputable section

namespace Cert.Proof

open Cert.KernelIdeal Cert.KernelIdeal.Gen Idealize.ShloMosaic

/-- While block `k` suppresses: the blocks before `jj` have been suppressed by it, the others only by the blocks
    before `k`. -/
def mid (T : Table) (k jj : ℕ) (b : ℕ) (j : Fin 512) : Bool :=
  Nms.run (rel T) (512 * (if b < jj then k + 1 else k)) (512 * b + j.val)

/-- Block `k` itself settled. -/
theorem mid_settle (T : Table) (k : ℕ) :
    Function.update (mid T k k) k (Nms.ans 512 (512 * k) (rel T)) = mid T k (k + 1) := by
  funext b
  by_cases hb : b = k
  · subst hb
    rw [Function.update_self]
    funext j
    unfold mid
    rw [if_pos (Nat.lt_succ_self b)]
    exact (Nms.run_of_le (by have := j.isLt; omega)).symm
  · rw [Function.update_of_ne hb]
    funext j
    unfold mid
    by_cases h : b < k
    · rw [if_pos h, if_pos (by omega)]
    · rw [if_neg h, if_neg (by omega)]

/-- A later block `jj` suppressed by block `k`. -/
theorem mid_sup (T : Table) {k jj : ℕ} (h : k < jj) :
    Function.update (mid T k jj) jj (sup T k jj (Nms.ans 512 (512 * k) (rel T)) (mid T k jj jj)) = mid T k (jj + 1) := by
  funext b
  by_cases hb : b = jj
  · subst hb
    rw [Function.update_self]
    funext j
    unfold sup mid
    rw [if_neg (lt_irrefl b), if_pos (Nat.lt_succ_self b), show 512 * (k + 1) = 512 * k + 512 from by omega,
      Nms.run_block (B := 512) (o := 512 * k) (by omega)]
    congr 1
    exact decide_eq_decide.mpr Iff.rfl
  · rw [Function.update_of_ne hb]
    funext j
    unfold mid
    by_cases h : b < jj
    · rw [if_pos h, if_pos (by omega)]
    · rw [if_neg h, if_neg (by omega)]

/-- Before block `k`, its own truth values are those the equation is about. -/
theorem mid_self (T : Table) (k : ℕ) : mid T k k k = Nms.inn 512 (512 * k) (rel T) := by
  funext j
  unfold mid
  rw [if_neg (lt_irrefl k)]
  rfl

/-- After the last block, the next trip's state. -/
theorem mid_next (T : Table) (k : ℕ) : keepArr (mid T k 10) = keepArr (mid T (k + 1) (k + 1)) := by
  funext i
  show ind (mid T k 10 (i 0 : Fin 10).val (i 2)) = ind (mid T (k + 1) (k + 1) (i 0 : Fin 10).val (i 2))
  generalize (i 2 : Fin 512) = j
  have h : (i 0 : Fin 10).val < 10 := (i 0 : Fin 10).isLt
  generalize (i 0 : Fin 10).val = b at h ⊢
  unfold mid
  rw [if_pos h]
  by_cases hb : b < k + 1
  · rw [if_pos hb]
    have hj : j.val < 512 := j.isLt
    rw [Nms.run_of_le (by omega), Nms.run_of_le (by omega)]
  · rw [if_neg hb]

/-- The first state: everything kept. -/
theorem mid_first (T : Table) : (k1_pay1 (F := Ideal) : Vec Ideal S10x1x512 .f32) = keepArr (mid T 0 0) := by
  funext i
  show (Ideal.ofBits .f32 0x3F800000#32 : EReal) = ind (mid T 0 0 (i 0 : Fin 10).val (i 2))
  unfold mid
  rw [if_neg (Nat.not_lt_zero _), Nat.mul_zero, Nms.run_zero]
  show _ = (1 : EReal)
  exact Ideal.ofBits_one_f32

/-- While the scores are tested: the blocks before `t` have been. -/
def tested (T : Table) (t : ℕ) (b : ℕ) (j : Fin 512) : Bool :=
  Nms.run (rel T) 5120 (512 * b + j.val) && (decide (t ≤ b) || scored (T (512 * b + j.val) 5))

theorem tested_first (T : Table) : keepArr (mid T 10 10) = keepArr (tested T 0) := by
  funext i
  show ind (mid T 10 10 (i 0 : Fin 10).val (i 2)) = ind (tested T 0 (i 0 : Fin 10).val (i 2))
  generalize (i 2 : Fin 512) = j
  have h : (i 0 : Fin 10).val < 10 := (i 0 : Fin 10).isLt
  generalize (i 0 : Fin 10).val = b at h ⊢
  unfold mid tested
  rw [if_pos h, show decide (0 ≤ b) = true from decide_eq_true (Nat.zero_le b), Bool.true_or, Bool.and_true]
  have hj : j.val < 512 := j.isLt
  rw [Nms.run_of_le (by omega), Nms.run_of_le (by omega)]

theorem tested_step (T : Table) (t : ℕ) :
    Function.update (tested T t) t (fun j => tested T t t j && scored (T (512 * t + j.val) 5)) = tested T (t + 1) := by
  funext b
  by_cases hb : b = t
  · subst hb
    rw [Function.update_self]
    funext j
    unfold tested
    rw [show decide (b ≤ b) = true from decide_eq_true (le_refl b), show decide (b + 1 ≤ b) = false from decide_eq_false (by omega),
      Bool.true_or, Bool.and_true, Bool.false_or]
  · rw [Function.update_of_ne hb]
    funext j
    unfold tested
    rw [show decide (t ≤ b) = decide (t + 1 ≤ b) from decide_eq_decide.mpr (by omega)]

end Cert.Proof

end
-- ==== Proof.NmsBody.lean ====
/- The suppression kernel's body, run on a table of features: the whole array of results at its exit. -/
module

public import proofs.«01_k».proof.Proof.NmsStep
public import Idealize.ShloMosaic.Lib.Tactic

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {Ix : Type} [DecidableEq Ix] {Name : Type} [DecidableEq Name] {U : Type} [URA U] {Lvl : Type} [Preorder Lvl]

local notation "𝕄" => MT nD τ sig Ix (Elt Ideal) Name U Lvl

/-- The loop's function is answered at numbered variants. -/
abbrev 𝒱b : Variants := Variants.nat

/-! ## The fixed point iteration inside a block -/

/-- The loop's result: the block's truth values, and some bit. -/
def settled (B : Fin 512 → Bool) : sWPT 𝕄 (FVec Ideal S1x512 .f32 × BitVec 1) := do
  let r ← sWPT.arbitrary
  sWPT.assume (r.1 = keepRow B)
  pure r

theorem settled_apply (B : Fin 512 → Bool) (K : FVec Ideal S1x512 .f32 × BitVec 1 → sProp 𝕄) :
    settled B K = iprop(∀ r : FVec Ideal S1x512 .f32 × BitVec 1, ⌜r.1 = keepRow B⌝ -∗ K r) := rfl

/-- The loop entered with `n` trips at most to run: either its bit is off and the values are the block's, or it is on
    and enough leading values are right. -/
theorem settled_le (c : Dev nD) (E : Set Name) (T : Table) (t : Fin k1_t1_loop.trips) :
    ∀ (n : ℕ) (x : Fin 512 → Bool) (b : BitVec 1),
      (b = 1#1 → ∃ s, s + n = 257 ∧ s ≤ 256 ∧ ∀ j : Fin 512, j.val < 2 * s → x j = Nms.ans 512 (512 * t.val) (rel T) j) →
      (b ≠ 1#1 → x = Nms.ans 512 (512 * t.val) (rel T)) →
      ∀ K : FVec Ideal S1x512 .f32 × BitVec 1 → sProp 𝕄, settled (Nms.ans 512 (512 * t.val) (rel T)) K
        ⊢ wp frame (wpE (defs₀ (F := Ideal)) 𝒱b (c : Thread nD τ) (some n)) E
            (defs₀ (F := Ideal) .tc 2 ⟨t, maskOf T t.val, keepRow (Nms.inn 512 (512 * t.val) (rel T)), keepRow x, b⟩) K := by
  intro n
  induction n with
  | zero =>
    intro x b h1 h0 K
    have hb : b ≠ 1#1 := fun hb => by
      obtain ⟨s, hs, hs', -⟩ := h1 hb
      omega
    rw [settled_apply]
    show _ ⊢ wp frame (wpE (defs₀ (F := Ideal)) 𝒱b (c : Thread nD τ) (some 0)) E
      (cc1_while1 t (maskOf T t.val) (keepRow (Nms.inn 512 (512 * t.val) (rel T))) (keepRow x) b) K
    simp only [cc1_while1_eq_skeleton]; unfold cc1_while1_skel
    rw [if_neg hb]
    iintro Hk
    rw [Prog.pure_eq_ret, wp_ret]; imodintro
    iapply Hk
    ipureintro
    exact congrArg keepRow (h0 hb)
  | succ n ih =>
    intro x b h1 h0 K
    rw [settled_apply]
    show _ ⊢ wp frame (wpE (defs₀ (F := Ideal)) 𝒱b (c : Thread nD τ) (some (n + 1))) E
      (cc1_while1 t (maskOf T t.val) (keepRow (Nms.inn 512 (512 * t.val) (rel T))) (keepRow x) b) K
    simp only [cc1_while1_eq_skeleton]; unfold cc1_while1_skel
    by_cases hb : b = 1#1
    · rw [if_pos hb]
      obtain ⟨s, hs, hs', hx⟩ := h1 hb
      have hx1 := Nms.blk_agree hx
      have hx2 := Nms.blk_agree hx1
      simp only [pay6_keep, pay5_keep, Prog.lift, Prog.bind_op, Prog.bind_ret, Prog.pure_eq_ret]
      have hon : BitVec.ofBool (decide (Nms.blk 512 (512 * t.val) (rel T) (Nms.inn 512 (512 * t.val) (rel T)) (Nms.blk 512 (512 * t.val) (rel T) (Nms.inn 512 (512 * t.val) (rel T)) x) ≠ Nms.blk 512 (512 * t.val) (rel T) (Nms.inn 512 (512 * t.val) (rel T)) x)) = 1#1 →
          ∃ s, s + n = 257 ∧ s ≤ 256 ∧ ∀ j : Fin 512, j.val < 2 * s → Nms.blk 512 (512 * t.val) (rel T) (Nms.inn 512 (512 * t.val) (rel T)) (Nms.blk 512 (512 * t.val) (rel T) (Nms.inn 512 (512 * t.val) (rel T)) x) j = Nms.ans 512 (512 * t.val) (rel T) j := by
        intro hne
        have hne' : Nms.blk 512 (512 * t.val) (rel T) (Nms.inn 512 (512 * t.val) (rel T)) (Nms.blk 512 (512 * t.val) (rel T) (Nms.inn 512 (512 * t.val) (rel T)) x)
            ≠ Nms.blk 512 (512 * t.val) (rel T) (Nms.inn 512 (512 * t.val) (rel T)) x := by
          intro e
          rw [decide_eq_false (fun h => h e)] at hne
          exact absurd hne (by decide)
        have hlt : s < 256 := by
          by_contra hge
          refine hne' (funext fun j => ?_)
          have := j.isLt
          rw [hx2 j (by omega), hx1 j (by omega)]
        exact ⟨s + 1, by omega, by omega, fun j hj => hx2 j (by omega)⟩
      have hoff : BitVec.ofBool (decide (Nms.blk 512 (512 * t.val) (rel T) (Nms.inn 512 (512 * t.val) (rel T)) (Nms.blk 512 (512 * t.val) (rel T) (Nms.inn 512 (512 * t.val) (rel T)) x) ≠ Nms.blk 512 (512 * t.val) (rel T) (Nms.inn 512 (512 * t.val) (rel T)) x)) ≠ 1#1 →
          Nms.blk 512 (512 * t.val) (rel T) (Nms.inn 512 (512 * t.val) (rel T)) (Nms.blk 512 (512 * t.val) (rel T) (Nms.inn 512 (512 * t.val) (rel T)) x) = Nms.ans 512 (512 * t.val) (rel T) := by
        intro heq
        have e : Nms.blk 512 (512 * t.val) (rel T) (Nms.inn 512 (512 * t.val) (rel T)) (Nms.blk 512 (512 * t.val) (rel T) (Nms.inn 512 (512 * t.val) (rel T)) x)
            = Nms.blk 512 (512 * t.val) (rel T) (Nms.inn 512 (512 * t.val) (rel T)) x := by
          by_contra hne
          rw [decide_eq_true hne] at heq
          exact heq (by decide)
        rw [e]
        exact Nms.blk_fix e
      iintro Hk
      iapply (wp_call_spec 𝒱b (c : Thread nD τ) (some (n + 1)) E (settled (Nms.ans 512 (512 * t.val) (rel T))) n
        (fun u hu => by cases hu; exact Nat.lt_succ_self n) (ih _ _ hon hoff))
      rw [settled_apply]
      iintro %r %hr
      rw [wp_ret]; imodintro
      iapply Hk
      ipureintro; exact hr
    · rw [if_neg hb]
      iintro Hk
      rw [Prog.pure_eq_ret, wp_ret]; imodintro
      iapply Hk
      ipureintro
      exact congrArg keepRow (h0 hb)

/-! ## The body -/

section Body

variable (c : Dev nD) (E : Set Name) (T : Table)

/-- The three arrays in the TensorCore's memory: the table by rows and by columns, and the blocks of truth values. -/
def heldAt (K : ℕ → Fin 512 → Bool) : sProp 𝕄 :=
  iprop((((c : Thread nD τ).loc cc1_stg0_0) ↦{fullShare} rowsArr T) ∗ (((c : Thread nD τ).loc cc1_stg1_0) ↦{fullShare} colsArr T)
    ∗ (((c : Thread nD τ).loc cc1_stg2_0) ↦{fullShare} keepArr K))

abbrev a0 : Memref sig .tc .vmem S10x512x8 .f32 := Memref.whole cc1_stg0_0
abbrev a1 : Memref sig .tc .vmem S10x8x512 .f32 := Memref.whole cc1_stg1_0
abbrev a2 : Memref sig .tc .vmem S10x1x512 .f32 := Memref.whole cc1_stg2_0
abbrev w0 : (a0 : Memref sig .tc .vmem S10x512x8 .f32).IsWhole := Memref.isWhole_whole _
abbrev w1 : (a1 : Memref sig .tc .vmem S10x8x512 .f32).IsWhole := Memref.isWhole_whole _
abbrev w2 : (a2 : Memref sig .tc .vmem S10x1x512 .f32).IsWhole := Memref.isWhole_whole _

/-- The last loop's trip: one block tested. -/
theorem test_trip (t : Fin k1_t6_loop.trips) :
    (heldAt c T (tested T t.val) : sProp 𝕄)
      ⊢ wp frame (wpE (defs₀ (F := Ideal)) 𝒱b (c : Thread nD τ) none) E (k1_t6_body (F := Ideal) a0 w0 a1 w1 a2 w2 t ⟨⟩)
          (fun _ => heldAt c T (tested T (t.val + 1))) := by
  unfold heldAt k1_t6_body
  simp only [Prog.lift, Prog.bind_op, Prog.bind_ret, Prog.pure_eq_ret]
  iintro ⟨H0, H1, H2⟩
  iapply (wp_load 𝒱b (c : Thread nD τ) none E (m := a2) (Finset.subset_univ _)) $$ H2; iintro H2
  iapply (wp_load 𝒱b (c : Thread nD τ) none E (m := a1) (Finset.subset_univ _)) $$ H1; iintro H1
  iapply (wp_load 𝒱b (c : Thread nD τ) none E (m := a2) (Finset.subset_univ _)) $$ H2; iintro H2
  iapply (wp_store 𝒱b (c : Thread nD τ) none E (m := a2) (r := Rect.unit (s := S10x1x512) (k1_off12 t) S1x1x512.size (k1_off12_inb t)) (Mk := Finset.univ) (Finset.subset_univ _)) $$ H2; iintro H2
  rw [wp_ret]; imodintro
  rw [load_keep _ _ (off12 t), load_cols _ _ (off13 t), pay3_keep, store_keep _ _ _ (off12 t), tested_step]
  isplitl [H0]; · iexact H0
  isplitl [H1]; · iexact H1
  iexact H2

/-! ### One block suppressing a later one -/

theorem off4_0 (t : Fin k1_t1_loop.trips) (u : Fin (k1_t2_loop t).trips) : k1_off4 t u 0#32 = ![t.val + 1 + 4 * u.val, 0, 0] := off4 t u 0
theorem off4_1 (t : Fin k1_t1_loop.trips) (u : Fin (k1_t2_loop t).trips) : k1_off4 t u 1#32 = ![t.val + 1 + 4 * u.val + 1, 0, 0] := off4 t u 1
theorem off4_2 (t : Fin k1_t1_loop.trips) (u : Fin (k1_t2_loop t).trips) : k1_off4 t u 2#32 = ![t.val + 1 + 4 * u.val + 1 + 1, 0, 0] := off4 t u 2
theorem off4_3 (t : Fin k1_t1_loop.trips) (u : Fin (k1_t2_loop t).trips) : k1_off4 t u 3#32 = ![t.val + 1 + 4 * u.val + 1 + 1 + 1, 0, 0] := off4 t u 3
theorem off5_0 (t : Fin k1_t1_loop.trips) (u : Fin (k1_t2_loop t).trips) : k1_off5 t u 0#32 = ![t.val + 1 + 4 * u.val, 0, 0] := off5 t u 0
theorem off5_1 (t : Fin k1_t1_loop.trips) (u : Fin (k1_t2_loop t).trips) : k1_off5 t u 1#32 = ![t.val + 1 + 4 * u.val + 1, 0, 0] := off5 t u 1
theorem off5_2 (t : Fin k1_t1_loop.trips) (u : Fin (k1_t2_loop t).trips) : k1_off5 t u 2#32 = ![t.val + 1 + 4 * u.val + 1 + 1, 0, 0] := off5 t u 2
theorem off5_3 (t : Fin k1_t1_loop.trips) (u : Fin (k1_t2_loop t).trips) : k1_off5 t u 3#32 = ![t.val + 1 + 4 * u.val + 1 + 1 + 1, 0, 0] := off5 t u 3

/-- A trip over four later blocks. -/
theorem group_trip (t : Fin k1_t1_loop.trips) (w : BitVec 32) (u : Fin (k1_t2_loop t).trips) :
    (heldAt c T (mid T t.val (t.val + 1 + 4 * u.val)) : sProp 𝕄)
      ⊢ wp frame (wpE (defs₀ (F := Ideal)) 𝒱b (c : Thread nD τ) none) E
          (k1_t2_body (F := Ideal) a0 w0 a1 w1 a2 w2 (k1_pay2 (F := Ideal)) t w (k1_pay30 (rowsBlk T t.val)) (k1_pay31 (rowsBlk T t.val)) (k1_pay32 (rowsBlk T t.val))
            (k1_pay33 (rowsBlk T t.val)) (k1_pay34 (rowsBlk T t.val)) (k1_pay35 (rowsBlk T t.val) (colsBlk T t.val)) (keepRow (Nms.ans 512 (512 * t.val) (rel T))) u ⟨⟩)
          (fun _ => heldAt c T (mid T t.val (t.val + 1 + 4 * (u.val + 1)))) := by
  unfold heldAt k1_t2_body
  simp only [k1_part1_eq_skeleton, k1_part2_eq_skeleton, k1_part3_eq_skeleton, k1_part4_eq_skeleton]
  unfold k1_part1_skel k1_part2_skel k1_part3_skel k1_part4_skel
  simp only [Prog.lift, Prog.bind_op, Prog.bind_ret, Prog.pure_eq_ret]
  iintro ⟨H0, H1, H2⟩
  iapply (wp_load 𝒱b (c : Thread nD τ) none E (m := a1) (Finset.subset_univ _)) $$ H1; iintro H1
  iapply (wp_load 𝒱b (c : Thread nD τ) none E (m := a2) (Finset.subset_univ _)) $$ H2; iintro H2
  iapply (wp_load 𝒱b (c : Thread nD τ) none E (m := a2) (Finset.subset_univ _)) $$ H2; iintro H2
  iapply (wp_store 𝒱b (c : Thread nD τ) none E (m := a2) (r := Rect.unit (s := S10x1x512) (k1_off5 t u 0#32) S1x1x512.size (k1_off5_inb t u 0)) (Mk := Finset.univ) (Finset.subset_univ _)) $$ H2; iintro H2
  rw [load_keep _ _ (off5_0 t u), load_cols _ _ (off4_0 t u), pay7_keep, store_keep _ _ _ (off5_0 t u), mid_sup T (by omega)]
  iapply (wp_load 𝒱b (c : Thread nD τ) none E (m := a1) (Finset.subset_univ _)) $$ H1; iintro H1
  iapply (wp_load 𝒱b (c : Thread nD τ) none E (m := a2) (Finset.subset_univ _)) $$ H2; iintro H2
  iapply (wp_load 𝒱b (c : Thread nD τ) none E (m := a2) (Finset.subset_univ _)) $$ H2; iintro H2
  iapply (wp_store 𝒱b (c : Thread nD τ) none E (m := a2) (r := Rect.unit (s := S10x1x512) (k1_off5 t u 1#32) S1x1x512.size (k1_off5_inb t u 1)) (Mk := Finset.univ) (Finset.subset_univ _)) $$ H2; iintro H2
  rw [load_keep _ _ (off5_1 t u), load_cols _ _ (off4_1 t u), pay10_keep, store_keep _ _ _ (off5_1 t u), mid_sup T (by omega)]
  iapply (wp_load 𝒱b (c : Thread nD τ) none E (m := a1) (Finset.subset_univ _)) $$ H1; iintro H1
  iapply (wp_load 𝒱b (c : Thread nD τ) none E (m := a2) (Finset.subset_univ _)) $$ H2; iintro H2
  iapply (wp_load 𝒱b (c : Thread nD τ) none E (m := a2) (Finset.subset_univ _)) $$ H2; iintro H2
  iapply (wp_store 𝒱b (c : Thread nD τ) none E (m := a2) (r := Rect.unit (s := S10x1x512) (k1_off5 t u 2#32) S1x1x512.size (k1_off5_inb t u 2)) (Mk := Finset.univ) (Finset.subset_univ _)) $$ H2; iintro H2
  rw [load_keep _ _ (off5_2 t u), load_cols _ _ (off4_2 t u), pay13_keep, store_keep _ _ _ (off5_2 t u), mid_sup T (by omega)]
  iapply (wp_load 𝒱b (c : Thread nD τ) none E (m := a1) (Finset.subset_univ _)) $$ H1; iintro H1
  iapply (wp_load 𝒱b (c : Thread nD τ) none E (m := a2) (Finset.subset_univ _)) $$ H2; iintro H2
  iapply (wp_load 𝒱b (c : Thread nD τ) none E (m := a2) (Finset.subset_univ _)) $$ H2; iintro H2
  iapply (wp_store 𝒱b (c : Thread nD τ) none E (m := a2) (r := Rect.unit (s := S10x1x512) (k1_off5 t u 3#32) S1x1x512.size (k1_off5_inb t u 3)) (Mk := Finset.univ) (Finset.subset_univ _)) $$ H2; iintro H2
  rw [load_keep _ _ (off5_3 t u), load_cols _ _ (off4_3 t u), pay16_keep, store_keep _ _ _ (off5_3 t u), mid_sup T (by omega)]
  rw [wp_ret]; imodintro
  isplitl [H0]; · iexact H0
  isplitl [H1]; · iexact H1
  iexact H2

/-- A trip over one later block. -/
theorem single_trip (t : Fin k1_t1_loop.trips) (w : BitVec 32) (u : Fin (k1_t4_loop t).trips) :
    (heldAt c T (mid T t.val (t.val + 1 + 4 * ((9 - t.val) / 4) + u.val)) : sProp 𝕄)
      ⊢ wp frame (wpE (defs₀ (F := Ideal)) 𝒱b (c : Thread nD τ) none) E
          (k1_t4_body (F := Ideal) a0 w0 a1 w1 a2 w2 t (k1_pay30 (rowsBlk T t.val)) (k1_pay31 (rowsBlk T t.val)) (k1_pay32 (rowsBlk T t.val))
            (k1_pay33 (rowsBlk T t.val)) (k1_pay34 (rowsBlk T t.val)) (keepRow (Nms.ans 512 (512 * t.val) (rel T))) w u ⟨⟩)
          (fun _ => heldAt c T (mid T t.val (t.val + 1 + 4 * ((9 - t.val) / 4) + (u.val + 1)))) := by
  unfold heldAt k1_t4_body
  simp only [k1_part9_eq_skeleton]
  unfold k1_part9_skel
  simp only [Prog.lift, Prog.bind_op, Prog.bind_ret, Prog.pure_eq_ret]
  iintro ⟨H0, H1, H2⟩
  iapply (wp_load 𝒱b (c : Thread nD τ) none E (m := a1) (Finset.subset_univ _)) $$ H1; iintro H1
  iapply (wp_load 𝒱b (c : Thread nD τ) none E (m := a2) (Finset.subset_univ _)) $$ H2; iintro H2
  iapply (wp_load 𝒱b (c : Thread nD τ) none E (m := a2) (Finset.subset_univ _)) $$ H2; iintro H2
  iapply (wp_store 𝒱b (c : Thread nD τ) none E (m := a2) (r := Rect.unit (s := S10x1x512) (k1_off9 t u) S1x1x512.size (k1_off9_inb t u)) (Mk := Finset.univ) (Finset.subset_univ _)) $$ H2; iintro H2
  rw [load_keep _ _ (off9 t u), load_cols _ _ (off8 t u), pay27_keep, store_keep _ _ _ (off9 t u), mid_sup T (by omega)]
  rw [wp_ret]; imodintro
  isplitl [H0]; · iexact H0
  isplitl [H1]; · iexact H1
  iexact H2

/-! ### A block's trip, and the whole body -/

/-- Block `t`'s trip: the block settled, then every later block suppressed by it. -/
theorem block_trip (t : Fin k1_t1_loop.trips) :
    (heldAt c T (mid T t.val t.val) : sProp 𝕄)
      ⊢ wp frame (wpE (defs₀ (F := Ideal)) 𝒱b (c : Thread nD τ) none) E (k1_t1_body (F := Ideal) a0 w0 a1 w1 a2 w2 t ⟨⟩)
          (fun _ => heldAt c T (mid T (t.val + 1) (t.val + 1))) := by
  have ht : t.val < 10 := t1_trips ▸ t.isLt
  unfold heldAt k1_t1_body
  simp only [k1_part11_eq_skeleton, k1_part12_eq_skeleton]
  unfold k1_part11_skel k1_part12_skel
  simp only [Prog.lift, Prog.bind_op, Prog.bind_ret, Prog.pure_eq_ret]
  iintro ⟨H0, H1, H2⟩
  iapply (wp_load 𝒱b (c : Thread nD τ) none E (m := a0) (Finset.subset_univ _)) $$ H0; iintro H0
  iapply (wp_load 𝒱b (c : Thread nD τ) none E (m := a1) (Finset.subset_univ _)) $$ H1; iintro H1
  iapply (wp_load 𝒱b (c : Thread nD τ) none E (m := a2) (Finset.subset_univ _)) $$ H2; iintro H2
  rw [load_rows _ _ (off1 t), load_cols _ _ (off2 t), load_keep _ _ (off3 t), mid_self, pay37_keep]
  iapply (wp_call_spec 𝒱b (c : Thread nD τ) none E (settled (Nms.ans 512 (512 * t.val) (rel T))) 257 (fun u hu => nomatch hu)
    (settled_le c E T t 257 (Nms.inn 512 (512 * t.val) (rel T)) 1#1
      (fun _ => ⟨0, rfl, Nat.zero_le _, fun j hj => absurd hj (by omega)⟩) (fun h => absurd rfl h)))
  rw [settled_apply]
  iintro %r %hr
  obtain ⟨r, b⟩ := r
  dsimp only at hr
  subst hr
  dsimp only
  iapply (wp_load 𝒱b (c : Thread nD τ) none E (m := a2) (Finset.subset_univ _)) $$ H2; iintro H2
  iapply (wp_store 𝒱b (c : Thread nD τ) none E (m := a2) (r := Rect.unit (s := S10x1x512) (k1_off3 t) S1x1x512.size (k1_off3_inb t)) (Mk := Finset.univ) (Finset.subset_univ _)) $$ H2; iintro H2
  rw [pay38_keep, store_keep _ _ _ (off3 t), mid_settle]
  rw [wp_bind]
  -- the later blocks, four at a time
  iapply (Scf.wp_for_bind frame (wpE (defs₀ (F := Ideal)) 𝒱b (c : Thread nD τ) none) E _ _ _ _ _ _
    (fun n (_ : Unit) => (heldAt c T (mid T t.val (t.val + 1 + 4 * n)) : sProp 𝕄)) (fun u _ => group_trip c E T t _ u)) $$ [H0 H1 H2]
  · unfold heldAt
    isplitl [H0]; · iexact H0
    isplitl [H1]; · iexact H1
    iexact H2
  iintro %_ H
  iapply (Scf.wp_for0_bind' frame (wpE (defs₀ (F := Ideal)) 𝒱b (c : Thread nD τ) none) E _ _ _ _ _ _ (t3_trips t) _ _ _ Entails.rfl)
  rw [wp_ret]; imodintro
  -- and the rest one at a time
  iapply (Scf.wp_for_bind frame (wpE (defs₀ (F := Ideal)) 𝒱b (c : Thread nD τ) none) E _ _ _ _ _ _
    (fun n (_ : Unit) => (heldAt c T (mid T t.val (t.val + 1 + 4 * ((9 - t.val) / 4) + n)) : sProp 𝕄)) (fun u _ => single_trip c E T t _ u)) $$ [H]
  · rw [show Scf.trips (k1_t2_loop t).lb (k1_t2_loop t).ub (k1_t2_loop t).st = (9 - t.val) / 4 from t2_trips t]
    iexact H
  iintro %_ H
  iapply (Scf.wp_for0_bind' frame (wpE (defs₀ (F := Ideal)) 𝒱b (c : Thread nD τ) none) E _ _ _ _ _ _ (t5_trips t) _ _ _ Entails.rfl)
  rw [wp_ret]; imodintro
  rw [show Scf.trips (k1_t4_loop t).lb (k1_t4_loop t).ub (k1_t4_loop t).st = (9 - t.val) % 4 from t4_trips t,
    show t.val + 1 + 4 * ((9 - t.val) / 4) + (9 - t.val) % 4 = 10 from by omega]
  unfold heldAt
  rw [mid_next]
  iexact H

/-- The whole array stored is the value stored. -/
theorem store_all (f w : Vec Ideal S10x1x512 .f32) :
    ((Memref.whole cc1_stg2_0).access (Rect.unit (s := S10x1x512) ![0, 0, 0] S10x1x512.size inb_S10x1x512_S10x1x512_0_0_0) : View sig .tc _ _ _).write (Elt Ideal) f w Finset.univ = w :=
  Memref.write_access_unit_zero_univ (Elt Ideal) cc1_stg2_0 (funext fun a => by fin_cases a <;> rfl) _ f w

/-- What the results' array holds at the body's exit. -/
def outs (T : Table) : Vec Ideal S10x1x512 .f32 := keepArr (tested T 10)

/-- The whole body: from the table by rows and by columns, whatever the results' array holds. -/
theorem nms_body (f : Vec Ideal S10x1x512 .f32) (Q : PUnit → sProp 𝕄) :
    iprop((((c : Thread nD τ).loc cc1_stg0_0) ↦{fullShare} rowsArr T) ∗ (((c : Thread nD τ).loc cc1_stg1_0) ↦{fullShare} colsArr T)
        ∗ (((c : Thread nD τ).loc cc1_stg2_0) ↦{fullShare} f)
        ∗ (((((c : Thread nD τ).loc cc1_stg0_0) ↦{fullShare} rowsArr T) ∗ (((c : Thread nD τ).loc cc1_stg1_0) ↦{fullShare} colsArr T)
          ∗ (((c : Thread nD τ).loc cc1_stg2_0) ↦{fullShare} outs T)) -∗ Q ⟨⟩))
      ⊢ wp frame (wpE (defs₀ (F := Ideal)) 𝒱b (c : Thread nD τ) none) E (cc1__nms_body (F := Ideal) a0 w0 a1 w1 a2 w2) Q := by
  simp only [cc1__nms_body_eq_skeleton]; unfold cc1__nms_body_skel
  simp only [Prog.lift, Prog.bind_op, Prog.bind_ret, Prog.pure_eq_ret]
  iintro ⟨H0, H1, H2, Hk⟩
  iapply (wp_load 𝒱b (c : Thread nD τ) none E (m := a2) (Finset.subset_univ _)) $$ H2; iintro H2
  iapply (wp_store 𝒱b (c : Thread nD τ) none E (m := a2)
    (r := Rect.unit (s := S10x1x512) ![0, 0, 0] S10x1x512.size inb_S10x1x512_S10x1x512_0_0_0) (Mk := Finset.univ) (Finset.subset_univ _)) $$ H2; iintro H2
  rw [store_all, mid_first T]
  iapply (Scf.wp_for_bind frame (wpE (defs₀ (F := Ideal)) 𝒱b (c : Thread nD τ) none) E _ _ _ _ _ _
    (fun n (_ : Unit) => (heldAt c T (mid T n n) : sProp 𝕄)) (fun t _ => block_trip c E T t)) $$ [H0 H1 H2]
  · unfold heldAt
    isplitl [H0]; · iexact H0
    isplitl [H1]; · iexact H1
    iexact H2
  iintro %_ H
  iapply (Scf.wp_for_bind frame (wpE (defs₀ (F := Ideal)) 𝒱b (c : Thread nD τ) none) E _ _ _ _ _ _
    (fun n (_ : Unit) => (heldAt c T (tested T n) : sProp 𝕄)) (fun t _ => test_trip c E T t)) $$ [H]
  · rw [show Scf.trips k1_t1_loop.lb k1_t1_loop.ub k1_t1_loop.st = 10 from t1_trips]
    unfold heldAt
    rw [tested_first]
    iexact H
  iintro %_ H
  rw [show Scf.trips k1_t6_loop.lb k1_t6_loop.ub k1_t6_loop.st = 10 from t6_trips]
  rw [wp_ret]; imodintro
  iapply Hk
  unfold heldAt outs
  iexact H

end Body

end Cert.Proof

end
-- ==== Proof.NmsRegion.lean ====
/-
  The suppression kernel's region on the TensorCore: from every buffer of the TensorCore held, the table's rows in
  `main_v28` and its columns in `main_v29`, the call runs and leaves `main_v30` at what the suppression keeps, every
  other buffer as it was. What the thread has recorded of its waits stays below the level the SparseCore call left.
-/
module

public import proofs.«01_k».proof.Proof.ScSetup
public import proofs.«01_k».proof.Proof.NmsBody
public import proofs.«01_k».proof.Proof.Gen.KernelIdeal.Launch
public import proofs.«01_k».proof.Proof.Gen.KernelIdeal.Points
public import Idealize.ShloMosaic.Lib.Pipeline.RegionsLoop

@[expose] public section

noncomputable section

namespace Cert.Proof.Region

open Cert.KernelIdeal Cert.KernelIdeal.Gen
open Cert.Proof Cert.Proof.Sc

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

local notation "𝕄" => MT nD τ sig (HIx 1) (Elt Ideal) ℕ UU ℕ

/-- The program's SparseCore configuration over the extended reals. -/
abbrev KI := K (F := Ideal)

abbrev adm : (p : Fin 1) → (pcfgs (F := Ideal) p).Adm := fun p => (cfgs p).toPCfg_adm

variable (V : (c : Dev nD) → (b : Ref sig .tc) → Buf (Elt Ideal) ((c : Thread nD τ).loc b)) (T : Dev nD → Table) (lvl : ℕ)

/-- The region's proof data: the three arrays at `V`; the body leaves the two inputs' staging buffers as fetched and
    the result's at what is kept; the waits recorded at entry are at levels at most `lvl`. -/
def dat (c : Dev nD) : Dat τ (Elt Ideal) (HIx 1) ℕ UU ℕ (cfg1 (F := Ideal)) c where
  A w := V c (Pipeline.arrRef spec1 w)
  after w _ := match w with
    | ⟨0, _⟩ => rowsArr (T c)
    | ⟨1, _⟩ => colsArr (T c)
    | ⟨2, _⟩ => outs (T c)
  Φ _ := Pipeline.scopedRest (Ix := HIx 1) (Name := ℕ) (U := UU) (Lvl := ℕ) (Val := Elt Ideal) spec1 c
  q _ := fullShare
  owed _ := 0
  recorded _ := {p | KI.lev ((c : Thread nD τ), p.1) p.2 ≤ lvl}

def pdats : (p : Fin 1) → (c : Dev nD) → Dat τ (Elt Ideal) (HIx 1) ℕ UU ℕ (Pipeline.pin (pcfgs (F := Ideal)) adm p) c
  | ⟨0, _⟩ => fun c => dat V T lvl c

variable (h28 : ∀ c, V c main_v28 = rowsArr (T c)) (h29 : ∀ c, V c main_v29 = colsArr (T c))

/-- Each window's block is its whole array. -/
theorem emb_0 (j : S10x512x8.Idx) : ((win1_0).blk t1_0).view.emb j = j :=
  funext fun a => Fin.ext (Pipeline.Window.rect_emb_val_of_index_zero win1_0 t1_0 a rfl j)
theorem emb_1 (j : S10x8x512.Idx) : ((win1_1).blk t1_0).view.emb j = j :=
  funext fun a => Fin.ext (Pipeline.Window.rect_emb_val_of_index_zero win1_1 t1_0 a rfl j)
theorem emb_2 (j : S10x1x512.Idx) : ((win1_2).blk t1_0).view.emb j = j :=
  funext fun a => Fin.ext (Pipeline.Window.rect_emb_val_of_index_zero win1_2 t1_0 a rfl j)

include h28 in
theorem before_0 (c : Dev nD) (d : (cfg1.win 0).block.Idx → Elt Ideal (cfg1.win 0).elt) :
    (dat V T lvl c).before 0 t1_0 d = rowsArr (T c) := by
  unfold Dat.before; rw [if_pos (by decide), ← h28 c]
  show (fun j => V c main_v28 (((win1_0).blk t1_0).view.emb j)) = _
  funext j; rw [emb_0]

include h29 in
theorem before_1 (c : Dev nD) (d : (cfg1.win 1).block.Idx → Elt Ideal (cfg1.win 1).elt) :
    (dat V T lvl c).before 1 t1_0 d = colsArr (T c) := by
  unfold Dat.before; rw [if_pos (by decide), ← h29 c]
  show (fun j => V c main_v29 (((win1_1).blk t1_0).view.emb j)) = _
  funext j; rw [emb_1]

include h28 h29 in
/-- The body's obligation: `nms_body` over the three staging buffers. -/
theorem body_obligation (c : Dev nD) : BodyObligation (dat V T lvl c) (defs₀ (F := Ideal)) 𝒱₀ (none : HIx 1) Set.univ := fun t => by
  obtain rfl := fin_N1 t
  rw [bigSep_W1, bigSep_W1]
  simp only [owns_whole_eq]
  rw [show (dat V T lvl c).Φ t1_0.succ = (dat V T lvl c).Φ t1_0.castSucc from rfl,
    show (dat V T lvl c).owesAt none t1_0.succ = (dat V T lvl c).owesAt none t1_0.castSucc from rfl]
  iintro ⟨HΦ, Howes, ⟨%d0, %f0, %hf0, H0⟩, ⟨%d1, %f1, %hf1, H1⟩, ⟨%d2, %f2, -, H2⟩⟩
  rw [before_0 V T lvl h28] at hf0
  rw [before_1 V T lvl h29] at hf1
  subst hf0
  subst hf1
  iapply (nms_body c Set.univ (T c) f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-- The result's array after the region. -/
theorem result_eq (c : Dev nD) : (pdats V T lvl 0 c).arrAt 2 (cfg1 (F := Ideal)).N = outs (T c) := by
  show (dat V T lvl c).arrAt 2 (cfg1 (F := Ideal)).N = _
  funext j
  have h := Dat.arrAt_emb_eq_flushed (dat V T lvl c) 2
    (fun t t' _ _ hne => absurd ((fin_N1 t).trans (fin_N1 t').symm) hne) t1_0 (flush1_2 _) j
  refine (congrArg ((dat V T lvl c).arrAt 2 (cfg1 (F := Ideal)).N) (emb_2 j)).symm.trans (h.trans ?_)
  rw [cast_eq]
  have hafter : (dat V T lvl c).after 2 t1_0 = outs (T c) := by dsimp only [dat]
  unfold Dat.flushed Pipeline.Window.cut
  rw [hafter]

variable (V' : (c : Dev nD) → (b : Ref sig .tc) → Buf (Elt Ideal) ((c : Thread nD τ).loc b))

/-- The thread's waits recorded below `lvl`, and nothing owed. -/
abbrev idle (c : Dev nD) : sProp 𝕄 :=
  iprop(∃ W, ⌜KI.WBelow (c : Thread nD τ) W lvl⌝ ∗ owes (c : Thread nD τ) (0 : CellTallies nD τ sig (HIx 1)) W)

set_option backward.isDefEq.respectTransparency.types false in
/-- The region, over every unscoped buffer at `V` and then at `V'`. -/
def reg (h28 : ∀ c, V c main_v28 = rowsArr (T c)) (h29 : ∀ c, V c main_v29 = colsArr (T c))
    (hout : ∀ c, V' c main_v30 = outs (T c)) (hne : ∀ c (b : Ref sig .tc), b ≠ main_v30 → V' c b = V c b) :
    Pipeline.RegionSeg (pcfgs (F := Ideal)) adm (pdats V T lvl) (none : HIx 1) defs₀ 𝒱₀ KI.L KI.lev 0 where
  win := launch1.win.to₀
  block_pos := launch1.block_pos
  stage_whole := launch1.stage_whole
  K := PEmpty
  osem k := k.elim
  ho := Pipeline.OwnSemFacts.none _
  hbody c := (body_obligation V T lvl h28 h29 c).loose
  hwaits := Pipeline.hwaits_of_owed_zero _ _ _ _ KI.L KI.lev 0 fun _ _ => rfl
  pre c := iprop(unscopedBufs c (V c) ∗ idle lvl c)
  post c := iprop(unscopedBufs c (V' c) ∗ idle lvl c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := Ideal)) adm (pdats V T lvl) launch1.win launch1.arr_whole c
      ((pdats V T lvl 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V T lvl 0 c).Φ 0 = Pipeline.scopedRest (Ix := HIx 1) (Name := ℕ) (U := UU) (Lvl := ℕ) (Val := Elt Ideal) spec1 c from rfl]
    iintro ⟨-, -, Hr⟩; iexact Hr
  hout c := by
    rw [Pipeline.ownSems0_none,
      show (pdats V T lvl 0 c).Φ (Fin.last _) = Pipeline.scopedRest (Ix := HIx 1) (Name := ℕ) (U := UU) (Lvl := ℕ) (Val := Elt Ideal) spec1 c from rfl]
    iintro Hr
    isplitr; · iempintro
    isplitr; · iempintro
    iexact Hr
  hexit c := by
    have hjoin := Pipeline.unscopedBufs_of_arrays (p := 0) (pcfgs (F := Ideal)) adm (Ix := HIx 1) (Name := ℕ) (U := UU) (Lvl := ℕ) launch1.win launch1.arr_whole c
      (pdats V T lvl) ((pdats V T lvl 0 c).share_full fun _ => rfl) (V c) (V' c) ((pdats V T lvl 0 c).arrAt · (cfg1 (F := Ideal)).N)
      (fun w => by
        fin_cases w
        · exact ((pdats V T lvl 0 c).arrAt_in 0 rfl _).trans (hne c main_v28 (by decide)).symm
        · exact ((pdats V T lvl 0 c).arrAt_in 1 rfl _).trans (hne c main_v29 (by decide)).symm
        · exact (result_eq V T lvl c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Cert.Proof.Region

end
-- ==== Proof.ScTile.lean ====
/-
  One worker's task, once, at a symbolic core and subcore: the fetch of its stretch of the order, the two gathers of
  eighty rows each outstanding together on one semaphore, their two waits, the write-out. It ends with the worker's rows
  of the result holding the gathered rows.
-/
module

public import proofs.«01_k».proof.Proof.ScSetup

@[expose] public section

noncomputable section

namespace Cert.Proof.Sc

open Cert.KernelIdeal Cert.KernelIdeal.Gen

open Idealize.ShloMosaic
open Idealize.ShloMosaic.SparseCore (S V T gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The worker's addresses -/

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))

abbrev irowK (L : grid0.Coords) : Rect S5120 := Rect.unit (s := S5120) (k0_off1 L) S160.size (k0_off1_inb L)
abbrev orowK (L : grid0.Coords) : Rect S5120x16 := Rect.unit (s := S5120x16) (k0_off2 L) S160x16.size (k0_off2_inb L)
abbrev iRowK (L : grid0.Coords) : Memref sig .scVector .hbm S160 .i32 := (iV).slice (irowK L) (fun _ => rfl)
abbrev oRowK (L : grid0.Coords) : Memref sig .scVector .hbm S160x16 .f32 := (oV).slice (orowK L) (fun _ => rfl)
abbrev tAllK : Memref sig .scVector .hbm S5120x16 .f32 := (tV).slice (Rect.unit (s := S5120x16) ![0, 0] S5120x16.size inb_S5120x16_S5120x16_0_0) (fun _ => rfl)
abbrev rK0 : Memref sig .scVector .vmem S80x16 .f32 := (rV).slice (Rect.unit (s := S160x16) ![0, 0] S80x16.size inb_S160x16_S80x16_0_0) (fun _ => rfl)
abbrev rK1 : Memref sig .scVector .vmem S80x16 .f32 := (rV).slice (Rect.unit (s := S160x16) ![80, 0] S80x16.size inb_S160x16_S80x16_80_0) (fun _ => rfl)
abbrev sK0 : Memref sig .scVector .vmem S80 .i32 := (sV).slice (Rect.unit (s := S160) ![0] S80.size inb_S160_S80_0) (fun _ => rfl)
abbrev sK1 : Memref sig .scVector .vmem S80 .i32 := (sV).slice (Rect.unit (s := S160) ![80] S80.size inb_S160_S80_80) (fun _ => rfl)

theorem irowK_eq : irowK L = irow (wL L) := by
  unfold irowK irow Rect.part Rect.block
  congr 1 <;> funext a
  · rw [k0_off1_eq]
    match a with
    | 0 =>
      have h : ∀ a b : ℕ, 320 * a + 160 * b = (2 * a + b) * 160 := fun a b => by omega
      simp [Shape.partIx, Shape.partSize, wid]
      exact h (L 1).val (L 0).val
  · match a with
    | 0 => simp [Shape.partSize]
theorem orowK_eq : orowK L = orow (wL L) := by
  unfold orowK orow Rect.part Rect.block
  congr 1 <;> funext a
  · rw [k0_off2_eq]
    match a with
    | 0 =>
      have h : ∀ a b : ℕ, 320 * a + 160 * b = (2 * a + b) * 160 := fun a b => by omega
      simp [Shape.partIx, Shape.partSize, wid]
      exact h (L 1).val (L 0).val
    | 1 => simp [Shape.partIx, Shape.partSize]
  · match a with
    | 0 => simp [Shape.partSize]
    | 1 => simp [Shape.partSize]

theorem set_iRowK : (iRowK L).view.set = iRowSet (wL L) := by
  show ((iV).view.slice (irowK L)).set = ((iV).view.slice (irow (wL L))).set
  exact irowK_eq L ▸ rfl
theorem set_oRowK : (oRowK L).view.set = oRowSet (wL L) := by
  show ((oV).view.slice (orowK L)).set = ((oV).view.slice (orow (wL L))).set
  exact orowK_eq L ▸ rfl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What the buffers hold -/

/-- Row `x` of the worker's stretch, as a row of the whole. -/
def up (L : grid0.Coords) (x : Fin 160) : Fin 5120 :=
  ⟨320 * (L 1).val + 160 * (L 0).val + x.val, by
    have h0 : (L 0).val < 2 := (L 0).isLt
    have h1 : (L 1).val < 16 := (L 1).isLt
    have := x.isLt
    omega⟩

theorem emb_iRowK (x : S160.Idx) : (iRowK L).view.emb x = at1 (up L (x 0)) := by
  funext a; apply Fin.ext
  match a with
  | 0 =>
    show (k0_off1 L) 0 + 1 * (x 0).val = _
    rw [k0_off1_eq]; exact congrArg (_ + ·) (Nat.one_mul _)
theorem emb_oRowK (x : S160x16.Idx) : (oRowK L).view.emb x = at2 (up L (x 0)) (x 1) := by
  funext a; apply Fin.ext
  match a with
  | 0 =>
    show (k0_off2 L) 0 + 1 * (x 0).val = _
    rw [k0_off2_eq]; exact congrArg (_ + ·) (Nat.one_mul _)
  | 1 =>
    show (k0_off2 L) 1 + 1 * (x 1).val = _
    rw [k0_off2_eq]; exact (Nat.zero_add _).trans (Nat.one_mul _)
theorem emb_tAllK (x : S5120x16.Idx) : (tAllK).view.emb x = x := by
  funext a; apply Fin.ext
  match a with
  | 0 => show 0 + 1 * (x 0).val = _; omega
  | 1 => show 0 + 1 * (x 1).val = _; omega

/-- Row `r`, column `f` of the row scratch; entry `r` of the list scratch. -/
def in2 (r : Fin 160) (f : Fin 16) : S160x16.Idx := fun a => match a with | 0 => r | 1 => f
def in1 (r : Fin 160) : S160.Idx := fun a => match a with | 0 => r

/-- Row `x` of gather `g` (`g = 0`: the first eighty rows; `g = 80`: the last), as a row of the scratch. -/
def half (g : ℕ) (hg : g + 80 ≤ 160) (x : Fin 80) : Fin 160 := ⟨g + x.val, by have := x.isLt; omega⟩

theorem emb_rK0 (x : S80x16.Idx) : (rK0).view.emb x = in2 (half 0 (by omega) (x 0)) (x 1) := by
  funext a; apply Fin.ext
  match a with
  | 0 => show 0 + 1 * (x 0).val = 0 + (x 0).val; omega
  | 1 => show 0 + 1 * (x 1).val = (x 1).val; omega
theorem emb_rK1 (x : S80x16.Idx) : (rK1).view.emb x = in2 (half 80 (by omega) (x 0)) (x 1) := by
  funext a; apply Fin.ext
  match a with
  | 0 => show 80 + 1 * (x 0).val = 80 + (x 0).val; omega
  | 1 => show 0 + 1 * (x 1).val = (x 1).val; omega
theorem emb_sK0 (x : S80.Idx) : (sK0).view.emb x = in1 (half 0 (by omega) (x 0)) := by
  funext a; apply Fin.ext
  match a with
  | 0 => show 0 + 1 * (x 0).val = 0 + (x 0).val; omega
theorem emb_sK1 (x : S80.Idx) : (sK1).view.emb x = in1 (half 80 (by omega) (x 0)) := by
  funext a; apply Fin.ext
  match a with
  | 0 => show 80 + 1 * (x 0).val = 80 + (x 0).val; omega

/-- The worker's list: the order at its stretch. -/
def lst {d : Dev nD} (od : Buf (Elt F) (iLoc d)) : Vec F S160 .i32 := fun x => od (at1 (up L (x 0)))

/-- The worker's rows: the table's rows its list names. -/
def got {d : Dev nD} (tb : Buf (Elt F) (tLoc d)) (od : Buf (Elt F) (iLoc d)) : Vec F S160x16 .f32 :=
  fun x => tb (at2 (Fin.ofNat 5120 (od (at1 (up L (x 0)))).toNat) (x 1))

theorem read_iRowK (od : Buf (Elt F) (iLoc d)) : (iRowK L).view.read (Elt F) od = lst L od := by
  funext x
  rw [View.read_apply, cast_eq, emb_iRowK]; rfl
theorem read_tAllK (tb : Buf (Elt F) (tLoc d)) : (tAllK).view.read (Elt F) tb = (tb : Vec F S5120x16 .f32) := by
  funext x
  rw [View.read_apply, cast_eq, emb_tAllK]
theorem read_sK0 (f : Vec F S160 .i32) (x : S80.Idx) : (sK0).view.read (Elt F) f x = f (in1 (half 0 (by omega) (x 0))) := by
  rw [View.read_apply, cast_eq, emb_sK0]
theorem read_sK1 (f : Vec F S160 .i32) (x : S80.Idx) : (sK1).view.read (Elt F) f x = f (in1 (half 80 (by omega) (x 0))) := by
  rw [View.read_apply, cast_eq, emb_sK1]

/-- Position `k` of a list of eighty, in row-major order, is its entry `k`. -/
theorem entry80 (k : Fin 80) (h : S80.numel = 80) : ((S80.rowMajor.symm (k.cast h.symm)) 0).val = k.val := by
  have h1 := Shape.rowMajor_val_one (d := S80.size) (S80.rowMajor.symm (k.cast h.symm))
  rw [← h1]
  exact congrArg Fin.val (S80.rowMajor.apply_symm_apply (k.cast h.symm))

/-- Where gather row `x` reads: the row the list names, the same column. -/
theorem idx_eq (r : Fin 80 → Fin 5120) (x : S80x16.Idx) :
    gathers_S5120x16_S80x16.idx r x = at2 (r (x 0)) (x 1) := by
  funext a
  match a with
  | 0 => exact gathers_S5120x16_S80x16.idx_axis r x
  | 1 => exact Fin.ext (gathers_S5120x16_S80x16.idx_of_ne r x 1 (by decide))

theorem in_range0 {od : Buf (Elt F) (iLoc d)} (hod : ∀ j : S5120.Idx, (od j).toNat < 5120) :
    ∀ x, ((sK0).view.read (Elt F) (lst L od) x).toNat < S5120x16.size gathers_S5120x16_S80x16.axis := fun x => by
  rw [read_sK0]; exact hod _
theorem in_range1 {od : Buf (Elt F) (iLoc d)} (hod : ∀ j : S5120.Idx, (od j).toNat < 5120) :
    ∀ x, ((sK1).view.read (Elt F) (lst L od) x).toNat < S5120x16.size gathers_S5120x16_S80x16.axis := fun x => by
  rw [read_sK1]; exact hod _

theorem written0 {tb : Buf (Elt F) (tLoc d)} {od : Buf (Elt F) (iLoc d)} (hod : ∀ j : S5120.Idx, (od j).toNat < 5120)
    (hn : S80.numel = S80x16.size gathers_S5120x16_S80x16.axis') (hin) (f : Vec F S160x16 .f32) :
    ∀ i ∈ (rK0).view.set, (rK0).view.write (Elt F) f (gatherPayload gathers_S5120x16_S80x16 ((tAllK).view.read (Elt F) tb)
      (SparseCore.rows ((sK0).view.read (Elt F) (lst L od)) hn hin)) Finset.univ i = got L tb od i := by
  intro i hi
  obtain ⟨x, -, rfl⟩ := Finset.mem_map.mp hi
  rw [View.write_emb_of_mem _ _ (Finset.mem_univ x)]
  unfold gatherPayload
  rw [read_tAllK, emb_rK0, cast_eq]
  refine (congrArg tb (idx_eq _ x)).trans ?_
  unfold got
  refine congrArg tb (congrArg (fun r => at2 r (x 1)) (Fin.ext ?_))
  show ((sK0).view.read (Elt F) (lst L od) (S80.rowMajor.symm ((x 0).cast _))).toNat = (od (at1 (up L _))).toNat % 5120
  rw [read_sK0, Nat.mod_eq_of_lt (hod _)]
  unfold lst
  refine congrArg BitVec.toNat (congrArg od (congrArg at1 (congrArg (up L) (Fin.ext ?_))))
  show 0 + ((S80.rowMajor.symm ((x 0).cast _)) 0).val = 0 + (x 0).val
  exact congrArg (0 + ·) (entry80 (x 0) (by decide))

theorem written1 {tb : Buf (Elt F) (tLoc d)} {od : Buf (Elt F) (iLoc d)} (hod : ∀ j : S5120.Idx, (od j).toNat < 5120)
    (hn : S80.numel = S80x16.size gathers_S5120x16_S80x16.axis') (hin) (f : Vec F S160x16 .f32) :
    ∀ i ∈ (rK1).view.set, (rK1).view.write (Elt F) f (gatherPayload gathers_S5120x16_S80x16 ((tAllK).view.read (Elt F) tb)
      (SparseCore.rows ((sK1).view.read (Elt F) (lst L od)) hn hin)) Finset.univ i = got L tb od i := by
  intro i hi
  obtain ⟨x, -, rfl⟩ := Finset.mem_map.mp hi
  rw [View.write_emb_of_mem _ _ (Finset.mem_univ x)]
  unfold gatherPayload
  rw [read_tAllK, emb_rK1, cast_eq]
  refine (congrArg tb (idx_eq _ x)).trans ?_
  unfold got
  refine congrArg tb (congrArg (fun r => at2 r (x 1)) (Fin.ext ?_))
  show ((sK1).view.read (Elt F) (lst L od) (S80.rowMajor.symm ((x 0).cast _))).toNat = (od (at1 (up L _))).toNat % 5120
  rw [read_sK1, Nat.mod_eq_of_lt (hod _)]
  unfold lst
  refine congrArg BitVec.toNat (congrArg od (congrArg at1 (congrArg (up L) (Fin.ext ?_))))
  show 80 + ((S80.rowMajor.symm ((x 0).cast _)) 0).val = 80 + (x 0).val
  exact congrArg (80 + ·) (entry80 (x 0) (by decide))

/-- The worker's rows of the result, written with its rows, are the gathered table's. -/
theorem written_out {tb : Buf (Elt F) (tLoc d)} {od : Buf (Elt F) (iLoc d)} (f : Buf (Elt F) (oLoc d)) :
    ∀ i ∈ (oRowK L).view.set, (oRowK L).view.write (Elt F) f (got L tb od) Finset.univ i = gathered tb od i := by
  intro i hi
  obtain ⟨x, -, rfl⟩ := Finset.mem_map.mp hi
  rw [View.write_emb_of_mem _ _ (Finset.mem_univ x), emb_oRowK, cast_eq]
  rfl

/-- The two halves of the row scratch are disjoint and all of it; so are the list's. -/
theorem rK_sdiff : Finset.univ \ (rK0).view.set = (rK1).view.set := by
  ext i
  simp only [Finset.mem_sdiff, Finset.mem_univ, true_and, View.set, Finset.mem_map]
  constructor
  · intro h
    have h80 : 80 ≤ (i 0).val := by
      by_contra hlt
      refine h ⟨fun a => match a with | 0 => (⟨(i 0).val, by omega⟩ : Fin 80) | 1 => i 1, ?_⟩
      rw [emb_rK0]; funext a; apply Fin.ext
      match a with
      | 0 => show 0 + (i 0).val = _; omega
      | 1 => rfl
    have h160 : (i 0).val < 160 := (i 0).isLt
    refine ⟨fun a => match a with | 0 => (⟨(i 0).val - 80, by omega⟩ : Fin 80) | 1 => i 1, ?_⟩
    rw [emb_rK1]; funext a; apply Fin.ext
    match a with
    | 0 => show 80 + ((i 0).val - 80) = _; omega
    | 1 => rfl
  · rintro ⟨x, rfl⟩ ⟨y, hy⟩
    rw [emb_rK0, emb_rK1] at hy
    have h0 : 0 + (y 0).val = 80 + (x 0).val := congrArg (fun z : S160x16.Idx => (z 0).val) hy
    have hlt : (y 0).val < 80 := (y 0).isLt
    omega
theorem sK_sdiff : Finset.univ \ (sK0).view.set = (sK1).view.set := by
  ext i
  simp only [Finset.mem_sdiff, Finset.mem_univ, true_and, View.set, Finset.mem_map]
  constructor
  · intro h
    have h80 : 80 ≤ (i 0).val := by
      by_contra hlt
      refine h ⟨fun a => match a with | 0 => (⟨(i 0).val, by omega⟩ : Fin 80), ?_⟩
      rw [emb_sK0]; funext a; apply Fin.ext
      match a with
      | 0 => show 0 + (i 0).val = _; omega
    have h160 : (i 0).val < 160 := (i 0).isLt
    refine ⟨fun a => match a with | 0 => (⟨(i 0).val - 80, by omega⟩ : Fin 80), ?_⟩
    rw [emb_sK1]; funext a; apply Fin.ext
    match a with
    | 0 => show 80 + ((i 0).val - 80) = _; omega
  · rintro ⟨x, rfl⟩ ⟨y, hy⟩
    rw [emb_sK0, emb_sK1] at hy
    have h0 : 0 + (y 0).val = 80 + (x 0).val := congrArg (fun z : S160.Idx => (z 0).val) hy
    have hlt : (y 0).val < 80 := (y 0).isLt
    omega

end Tile

end Cert.Proof.Sc

end
-- ==== Proof.ScBody.lean ====
/-
  One worker's task: the fetch of its stretch of the order, the two gathers of eighty rows each outstanding together on
  one semaphore, their two waits, the write-out. The two gathers are one batch of 160 row transfers: each row, landed,
  hands back its row of the scratch, its entry of the list and its piece of the table's share; the two waits together
  take the whole credit, and only then are the rows joined.
-/
module

public import proofs.«01_k».proof.Proof.ScTile

@[expose] public section

noncomputable section

namespace Cert.Proof.Sc

open Cert.KernelIdeal Cert.KernelIdeal.Gen

open Idealize.ShloMosaic
open Idealize.ShloMosaic.SparseCore (S V T gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords)

section Rows
variable (q₀ q₁ : PosShare TreeShare) (tb : Buf (Elt F) (tLoc d)) (od : Buf (Elt F) (iLoc d))
  (hod : ∀ j : S5120.Idx, (od j).toNat < 5120) (fr : Vec F S160x16 .f32)

/-- What each row of the first gather hands back, and of the second. -/
def back0 (t : Fin 80) : sProp 𝕄 :=
  GatherBatch.rowBack (V d (cV L) (jV L)) tAllK rK0 gathers_S5120x16_S80x16 sK0 rfl (by decide) q₀ fullShare tb fr (lst L od)
    (SparseCore.rows ((sK0).view.read (Elt F) (lst L od)) rfl (in_range0 d L hod)) t
def back1 (t : Fin 80) : sProp 𝕄 :=
  GatherBatch.rowBack (V d (cV L) (jV L)) tAllK rK1 gathers_S5120x16_S80x16 sK1 rfl (by decide) q₁ fullShare tb fr (lst L od)
    (SparseCore.rows ((sK1).view.read (Elt F) (lst L od)) rfl (in_range1 d L hod)) t

/-- What transfer `t` of the batch hands back: a row of the first gather for the first eighty, of the second after. -/
def back (t : Fin 160) : sProp 𝕄 :=
  if h : t.val < 80 then back0 d L q₀ tb od hod fr ⟨t.val, h⟩
  else back1 d L q₁ tb od hod fr ⟨t.val - 80, by have := t.isLt; omega⟩

instance back_storable (t : Fin 160) : BI.Storable (upEmb : UEmb _ 𝕄) (back d L q₀ q₁ tb od hod fr t) := by
  unfold back
  split
  · exact GatherBatch.rowBack_storable _ _ _ _ _ _ _ _ _ _ _ _ _ _
  · exact GatherBatch.rowBack_storable _ _ _ _ _ _ _ _ _ _ _ _ _ _

theorem back_first (t : Fin 80) (h) : back d L q₀ q₁ tb od hod fr ⟨0 + t.val, h⟩ = back0 d L q₀ tb od hod fr t := by
  unfold back
  rw [dif_pos (show (0 + t.val) < 80 by have := t.isLt; omega)]
  exact congrArg _ (Fin.ext (Nat.zero_add _))
theorem back_first' (t : Fin 80) (h) : back d L q₀ q₁ tb od hod fr ⟨t.val, h⟩ = back0 d L q₀ tb od hod fr t := by
  unfold back
  rw [dif_pos (show t.val < 80 from t.isLt)]
theorem back_second (t : Fin 80) (h) : back d L q₀ q₁ tb od hod fr ⟨80 + t.val, h⟩ = back1 d L q₁ tb od hod fr t := by
  unfold back
  rw [dif_neg (show ¬ (80 + t.val) < 80 by omega)]
  exact congrArg _ (Fin.ext (show 80 + t.val - 80 = t.val by omega))

/-- All the batch hands back: both halves of the row scratch at the worker's rows, the list and the table whole. -/
theorem back_all :
    (bigSep Finset.univ (back d L q₀ q₁ tb od hod fr) : sProp 𝕄)
      ⊢ iprop(((rK0).view.loc (V d (cV L) (jV L)) ↦[(rK0).view.set]{fullShare} got L tb od)
          ∗ ((rK1).view.loc (V d (cV L) (jV L)) ↦[(rK1).view.set]{fullShare} got L tb od)
          ∗ ((sK0).view.loc (V d (cV L) (jV L)) ↦[(sK0).view.set]{fullShare} lst L od)
          ∗ ((sK1).view.loc (V d (cV L) (jV L)) ↦[(sK1).view.set]{fullShare} lst L od)
          ∗ ((tAllK).view.loc (V d (cV L) (jV L)) ↦[(tAllK).view.set]{q₀} tb)
          ∗ ((tAllK).view.loc (V d (cV L) (jV L)) ↦[(tAllK).view.set]{q₁} tb)) := by
  rw [GatherBatch.univ_halves 80 rfl]
  rw [show (fun k : Fin 80 => back d L q₀ q₁ tb od hod fr ⟨k.val, by have := k.isLt; omega⟩) = back0 d L q₀ tb od hod fr from
      funext fun k => back_first' d L q₀ q₁ tb od hod fr k _,
    show (fun k : Fin 80 => back d L q₀ q₁ tb od hod fr ⟨80 + k.val, by have := k.isLt; omega⟩) = back1 d L q₁ tb od hod fr from
      funext fun k => back_second d L q₀ q₁ tb od hod fr k _]
  have h0 : (bigSep Finset.univ (back0 d L q₀ tb od hod fr) : sProp 𝕄) ⊢ _ :=
    GatherBatch.rows_back (V d (cV L) (jV L)) tAllK rK0 gathers_S5120x16_S80x16 sK0 rfl (by decide) q₀ fullShare tb fr (lst L od) _
  have h1 : (bigSep Finset.univ (back1 d L q₁ tb od hod fr) : sProp 𝕄) ⊢ _ :=
    GatherBatch.rows_back (V d (cV L) (jV L)) tAllK rK1 gathers_S5120x16_S80x16 sK1 rfl (by decide) q₁ fullShare tb fr (lst L od) _
  have c0 := pointsTo_congr (Ix := HIx 1) (Name := ℕ) (U := UU) (Lvl := ℕ) (ℓ := (rK0).view.loc (V d (cV L) (jV L))) (q := fullShare)
    (written0 d L (tb := tb) hod rfl (in_range0 d L hod) fr)
  have c1 := pointsTo_congr (Ix := HIx 1) (Name := ℕ) (U := UU) (Lvl := ℕ) (ℓ := (rK1).view.loc (V d (cV L) (jV L))) (q := fullShare)
    (written1 d L (tb := tb) hod rfl (in_range1 d L hod) fr)
  iintro ⟨H0, H1⟩
  ihave H0' := h0 $$ H0
  ihave H1' := h1 $$ H1
  icases H0' with ⟨Hr0, Hs0, Ht0⟩
  icases H1' with ⟨Hr1, Hs1, Ht1⟩
  isplitl [Hr0]; · iapply (Entails.of_eq c0); iexact Hr0
  isplitl [Hr1]; · iapply (Entails.of_eq c1); iexact Hr1
  isplitl [Hs0]; · iexact Hs0
  isplitl [Hs1]; · iexact Hs1
  isplitl [Ht0]; · iexact Ht0
  iexact Ht1

end Rows

/-- A finished step followed by `k` runs as `k`. -/
theorem wp_ret_bind (thr : Thread nD τ) {α : Type} (k : PUnit → Prog (TpuEff nD τ sig (Elt F) (Λ₀ F) thr.2) α) (Q : α → sProp 𝕄) :
    wp frame (wpE (defs₀ (F := F)) 𝒱₀ thr none) Set.univ (k ⟨⟩) Q
      ⊢ wp frame (wpE (defs₀ (F := F)) 𝒱₀ thr none) Set.univ ((Prog.ret PUnit.unit).bind k) Q := BI.Entails.refl _

/-- What a row of either gather credits: sixteen words of 32 bits. -/
theorem credit0 (j : Fin (S80x16.size gathers_S5120x16_S80x16.axis')) :
    ((rK0).slice (S80x16.rowRect gathers_S5120x16_S80x16.axis' j) (S80x16.stride_rowRect _ j)).view.dmaCredit = 512 := by
  revert j; decide
theorem credit1 (j : Fin (S80x16.size gathers_S5120x16_S80x16.axis')) :
    ((rK1).slice (S80x16.rowRect gathers_S5120x16_S80x16.axis' j) (S80x16.stride_rowRect _ j)).view.dmaCredit = 512 := by
  revert j; decide

set_option maxHeartbeats 4000000 in
/-- The task of worker `(L 0, L 1)` on device `d`, at any order whose words are below 5120: its stretch of the order,
    its share of the table and its rows of the result come back, the rows at the gathered table's. -/
theorem tile_body (hF : (K (F := F)).Facts) (tb : ∀ d, Buf (Elt F) (tLoc d)) (od : ∀ d, Buf (Elt F) (iLoc d)) (o0 : ∀ d, Buf (Elt F) (oLoc d))
    (hod : InRange od) (O : CellTallies nD τ sig (HIx 1)) (W : Waits sig (HIx 1)) (hO : ∀ g, O g none = 0) :
    iprop(levAts (K (F := F)).L (K (F := F)).lev ∗ emp ∗ job tb od d (wL L) (o0 d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L tV (Memref.isWhole_whole _) iV (Memref.isWhole_whole _) oV (Memref.isWhole_whole _)
            sV (Memref.isWhole_whole _) rV (Memref.isWhole_whole _) cc0_scratch2 cc0_scoped0 cc0_scoped1)
          fun _ => iprop(job tb od d (wL L) (gathered (tb d) (od d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel job
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  -- The list is the worker's stretch of the order.
  have hlist : View.write (Elt F) (sV).view fs (tile_body.sl.dma0 d L od) Finset.univ = lst L (od d) :=
    (View.write_whole_univ _ _ _).trans (read_iRowK d L (od d))
  rw [hlist]
  -- The table's share in two, one for each gather; the two scratches in their halves.
  have htA : (tAllK).view.set = (Finset.univ : Finset S5120x16.Idx) :=
    Finset.eq_univ_iff_forall.mpr fun x => Finset.mem_map.mpr ⟨x, Finset.mem_univ _, emb_tAllK x⟩
  let q₀ : PosShare TreeShare := (tq (wL L)).left
  let q₁ : PosShare TreeShare := (tq (wL L)).right
  ihave Hts := (pointsTo_share (PosShare.mem_left_op_right (tq (wL L)))).1 $$ Ht'
  icases Hts with ⟨Ht0, Ht1⟩
  ihave Ht0' := (Entails.of_eq (show ((tV).view.loc (V d (cV L) (jV L)) ↦{q₀} tb d : sProp 𝕄)
      = (tAllK).view.loc (V d (cV L) (jV L)) ↦[(tAllK).view.set]{q₀} tb d by rw [htA])) $$ Ht0
  ihave Ht1' := (Entails.of_eq (show ((tV).view.loc (V d (cV L) (jV L)) ↦{q₁} tb d : sProp 𝕄)
      = (tAllK).view.loc (V d (cV L) (jV L)) ↦[(tAllK).view.set]{q₁} tb d by rw [htA])) $$ Ht1
  ihave Hss := (pointsTo_split_subset (q := fullShare) (f := lst L (od d)) (S := Finset.univ) (Finset.subset_univ (sK0).view.set)).1 $$ Hs'
  icases Hss with ⟨Hs0, Hs1⟩
  ihave Hrs := (pointsTo_split_subset (q := fullShare) (f := fr) (S := Finset.univ) (Finset.subset_univ (rK0).view.set)).1 $$ Hr'
  icases Hrs with ⟨Hr0, Hr1⟩
  rw [sK_sdiff, rK_sdiff]
  -- The batch, over the gathers' semaphore.
  imod (Transfers.batch_alloc' countersEmb (V d (cV L) (jV L)) (sm := .dma cc0_scratch2.sem) (default : HIx 1) 512
    (back d L q₀ q₁ (tb d) (od d) (hod d) fr)) $$ HsemG with HB
  iapply (GatherBatch.issue countersEmb 𝒱₀ (V d (cV L) (jV L)) none (hg := gathers_S5120x16_S80x16) (default : HIx 1) 512 credit0 (by decide)
    (in_range0 d L (hod d)) (by decide) (Nat.zero_le _) (fun t => Entails.of_eq (back_first d L q₀ q₁ (tb d) (od d) (hod d) fr t _).symm)) $$ [Ht0' Hr0 Hs0 HB]
  · isplitl [Ht0']; · iexact Ht0'
    isplitl [Hr0]; · iexact Hr0
    isplitl [Hs0]; · iexact Hs0
    iexact HB
  iintro HB
  sl_exec
  iapply (GatherBatch.issue countersEmb 𝒱₀ (V d (cV L) (jV L)) none (hg := gathers_S5120x16_S80x16) (default : HIx 1) 512 credit1 (by decide)
    (in_range1 d L (hod d)) (by decide) (Nat.zero_le _) (fun t => Entails.of_eq (back_second d L q₀ q₁ (tb d) (od d) (hod d) fr t _).symm)) $$ [Ht1' Hr1 Hs1 HB]
  · isplitl [Ht1']; · iexact Ht1'
    isplitl [Hr1]; · iexact Hr1
    isplitl [Hs1]; · iexact Hs1
    iexact HB
  iintro HB
  sl_exec
  -- The two waits: eighty rows' credit each.
  iapply (Transfers.wp_waitBatchMulO countersEmb 𝒱₀ (V d (cV L) (jV L)) none (default : HIx 1) (N := 512) (j := 160) (u := 0) 80 (by decide) (by decide)) $$ [HB HO]
  · isplitl [HB]; · iexact HB
    isplitl [HO]; · iexact HO
    iapply (Transfers.MayWaits.elim (SemLoc.dma cc0_scratch2.sem)) $$ Hmw
  iintro ⟨HB, HO⟩
  sl_step
  iapply (Transfers.wp_waitBatchMulO countersEmb 𝒱₀ (V d (cV L) (jV L)) none (default : HIx 1) (N := 512) (j := 160) (u := 0 + 80 * 512) 80 (by decide) (by decide)) $$ [HB HO]
  · isplitl [HB]; · iexact HB
    isplitl [HO]; · iexact HO
    iapply (Transfers.MayWaits.elim (SemLoc.dma cc0_scratch2.sem)) $$ Hmw
  iintro ⟨HB, HO⟩
  beta_reduce
  imod (Transfers.batch_collect' countersEmb (V d (cV L) (jV L)) (N := 512) (by decide)) $$ HB with ⟨HD, HsemG⟩
  ihave HD' := (back_all d L q₀ q₁ (tb d) (od d) (hod d) fr) $$ HD
  icases HD' with ⟨Hr0, Hr1, Hs0, Hs1, Ht0, Ht1⟩
  -- The scratches and the table's share whole again.
  ihave Hr := (pointsTo_split_subset (ℓ := (V d (cV L) (jV L)).loc cc0_scratch1) (q := fullShare) (f := got L (tb d) (od d)) (S := Finset.univ) (Finset.subset_univ (rK0).view.set)).2 $$ [Hr0 Hr1]
  · rw [rK_sdiff]; isplitl [Hr0]; · iexact Hr0
    iexact Hr1
  ihave Hs := (pointsTo_split_subset (ℓ := (V d (cV L) (jV L)).loc cc0_scratch0) (q := fullShare) (f := lst L (od d)) (S := Finset.univ) (Finset.subset_univ (sK0).view.set)).2 $$ [Hs0 Hs1]
  · rw [sK_sdiff]; isplitl [Hs0]; · iexact Hs0
    iexact Hs1
  rw [htA]
  ihave Ht := (pointsTo_share (PosShare.mem_left_op_right (tq (wL L)))).2 $$ [Ht0 Ht1]
  · isplitl [Ht0]; · iexact Ht0
    iexact Ht1
  ihave Hr' := (Entails.of_eq (pts_rV (F := F) d L _).symm) $$ Hr
  iapply (wp_ret_bind (V d (cV L) (jV L)))
  beta_reduce
  sl_exec
  sl_step
  have hout : ∀ i ∈ (oRowK L).view.set, (oRowK L).view.writes (Elt F) (o0 d) [⟨Rect.whole S160x16, tile_body.sl.dma0_1 d L tb od⟩] i
      = gathered (tb d) (od d) i := by
    intro i hi
    obtain ⟨x, -, rfl⟩ := Finset.mem_map.mp hi
    rw [View.writes_singleton]
    have e : ((oRowK L).view.slice (Rect.whole S160x16)).emb x = (oRowK L).view.emb x := by
      show (oRowK L).view.emb ((Rect.whole S160x16).emb x) = _
      exact congrArg _ (funext fun a => Fin.ext (show 0 + 1 * (x a).val = (x a).val by omega))
    rw [← e, View.write_emb_of_mem _ _ (Finset.mem_univ x), cast_eq, e, emb_oRowK]
    rfl
  isplitl [Hi' Ht Ho']
  · isplitl [Hi']; · iapply (Entails.of_eq (pts_iRowK (F := F) d L _)); iexact Hi'
    isplitl [Ht]; · iexact Ht
    iapply (Entails.of_eq (pts_oRowK (F := F) d L _))
    iapply (Entails.of_eq (pointsTo_congr hout)) $$ Ho'
  isplitl [Hs Hr' Hbufs]
  · isplitl [Hs]; · iexists _; iexact Hs
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- A worker's coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

/-- A wait recorded at `none` is one the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every worker meets the launch's obligation. -/
theorem tileObl (tb : ∀ d, Buf (Elt F) (tLoc d)) (od : ∀ d, Buf (Elt F) (iLoc d)) (o0 : ∀ d, Buf (Elt F) (oLoc d))
    (hod : InRange od) : (K (F := F)).TileObl (D (F := F)) 𝒱 (P tb od o0) v₀ 0 := by
  intro d c i O W hO _ _
  simp only [show (P tb od o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts tb od o0 hod O W hO).trans (wp_mono frame _ _ fun _ => obl_post)

/-- A core's share is its workers' jobs. -/
theorem vecSplit (tb : ∀ d, Buf (Elt F) (tLoc d)) (od : ∀ d, Buf (Elt F) (iLoc d)) (o0 : ∀ d, Buf (Elt F) (oLoc d)) :
    (K (F := F)).VecSplit' (P tb od o0) 0 := by
  intro d c
  show (bigSep Finset.univ fun i => (P tb od o0).go 0 d c i : sProp 𝕄) ⊢ _
  iintro H
  imodintro
  isplitl [H]; · iexact H
  iintro H
  iapply (Entails.of_eq (show (bigSep Finset.univ fun i => (P tb od o0).td 0 d c i : sProp 𝕄) = (P tb od o0).dn 0 d c from rfl)) $$ H

end Tile

end Cert.Proof.Sc
-- ==== Proof.ScJobs.lean ====
/-
  The three arrays of the SparseCore call as the thirty-two workers' jobs: the order and the result by stretches of 160
  rows, the table by equal read shares; the workers numbered by core and subcore.
-/
module

public import proofs.«01_k».proof.Proof.ScSetup

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem iStretch_eq (w : Fin 32) : iRowSet w = (irow w).set := by
  show ((iV).view.slice (irow w)).set = _
  rw [View.set_slice]; exact Finset.map_refl
theorem oStretch_eq (w : Fin 32) : oRowSet w = (orow w).set := by
  show ((oV).view.slice (orow w)).set = _
  rw [View.set_slice]; exact Finset.map_refl

theorem order_stretches (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet
      (fun v _ w _ h => by rw [iStretch_eq, iStretch_eq]; exact Rect.part_disjoint idiv h),
    (Finset.biUnion_congr rfl fun w _ => iStretch_eq w).trans (Rect.biUnion_part idiv)]
  try rfl
theorem result_stretches (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet
      (fun v _ w _ h => by rw [oStretch_eq, oStretch_eq]; exact Rect.part_disjoint odiv h),
    (Finset.biUnion_congr rfl fun w _ => oStretch_eq w).trans (Rect.biUnion_part odiv)]
  try rfl
theorem table_shares (d : Dev nD) (f : Buf (Elt F) (tLoc d)) :
    (tLoc d ↦{fullShare} f : sProp 𝕄) = bigSep Finset.univ fun w : Fin 32 => tLoc d ↦{tq w} f :=
  pointsTo_piecesOf Finset.univ f (by norm_num) fullShare

variable (tb : ∀ d : Dev nD, Buf (Elt F) (tLoc d)) (od : ∀ d : Dev nD, Buf (Elt F) (iLoc d)) (o0 : ∀ d : Dev nD, Buf (Elt F) (oLoc d))

/-- The three arrays are the thirty-two jobs. -/
theorem arrays_eq_jobs (d : Dev nD) (f : Buf (Elt F) (oLoc d)) :
    (iprop((iLoc d ↦{fullShare} od d) ∗ (tLoc d ↦{fullShare} tb d) ∗ oLoc d ↦{fullShare} f) : sProp 𝕄)
      = bigSep Finset.univ fun w : Fin 32 => job tb od d w f := by
  unfold job
  rw [bigSep_sep', bigSep_sep', ← order_stretches, ← table_shares, ← result_stretches]

/-- A worker's number determines its core and its subcore. -/
def widEquiv : Fin 2 × Fin 16 ≃ Fin 32 where
  toFun p := wid p.1 p.2
  invFun w := (⟨w.val % 2, Nat.mod_lt _ (by norm_num)⟩, ⟨w.val / 2, by omega⟩)
  left_inv p := by
    obtain ⟨c, s⟩ := p
    refine Prod.ext (Fin.ext ?_) (Fin.ext ?_)
    · show (2 * s.val + c.val) % 2 = c.val
      omega
    · show (2 * s.val + c.val) / 2 = s.val
      omega
  right_inv w := Fin.ext (by show 2 * (w.val / 2) + w.val % 2 = w.val; omega)

theorem jobs_eq_cores (Φ : Fin 32 → sProp 𝕄) :
    (bigSep Finset.univ fun c : Fin ((K (F := F)).nCore 0) => bigSep Finset.univ fun i : Fin ((K (F := F)).nSub 0) =>
        Φ (wid (Fin.cast nCore_zero c) (Fin.cast nSub_zero i))) = bigSep Finset.univ Φ := by
  rw [bigSep_univ_equiv widEquiv, bigSep_univ_prod]
  rfl

/-- What the call takes, over both cores, and what it gives back. -/
theorem st_eq (d : Dev nD) : (bigSep Finset.univ fun c : Fin ((K (F := F)).nCore 0) => (P tb od o0).st 0 d c : sProp 𝕄)
    = iprop((iLoc d ↦{fullShare} od d) ∗ (tLoc d ↦{fullShare} tb d) ∗ oLoc d ↦{fullShare} o0 d) := by
  rw [arrays_eq_jobs, ← jobs_eq_cores]; rfl
theorem dn_eq (d : Dev nD) : (bigSep Finset.univ fun c : Fin ((K (F := F)).nCore 0) => (P tb od o0).dn 0 d c : sProp 𝕄)
    = iprop((iLoc d ↦{fullShare} od d) ∗ (tLoc d ↦{fullShare} tb d) ∗ oLoc d ↦{fullShare} gathered (tb d) (od d)) := by
  rw [arrays_eq_jobs, ← jobs_eq_cores]; rfl

end Cert.Proof.Sc

end
-- ==== Proof.KRun.lean ====
/-
  The kernel's program run whole: the host's operations before the SparseCore call, the gather, the host's operations
  between the two calls, the suppression on the TensorCore, the host's operations after it. Every buffer's contents
  are carried through, the order's entries naming rows of the table (`hod`) and the table's rows and columns standing in
  the suppression's two arguments (`h28`, `h29`) asked of the contents on the way.
-/
module

public import proofs.«01_k».proof.Proof.KHost
public import proofs.«01_k».proof.Proof.NmsRegion
public import proofs.«01_k».proof.Proof.ScBody
public import proofs.«01_k».proof.Proof.ScJobs
public import Idealize.ShloMosaic.Lib.SparseCore.Quiescent
public import Idealize.ShloMosaic.Lib.StableHlo.Run
public import Idealize.ShloMosaic.Lib.Pipeline.Frame

@[expose] public section

noncomputable section

namespace Cert.Proof.KRun

open Cert.KernelIdeal Cert.KernelIdeal.Gen
open Cert.Proof Cert.Proof.Sc Cert.Proof.Region Cert.Proof.KHost

open Idealize.ShloMosaic
open Idealize.ShloMosaic.TcCoe Idealize.ShloMosaic.Tactic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after)

local notation "𝕄" => MT nD τ sig (HIx 1) (Elt Ideal) ℕ UU ℕ

abbrev Valn := Valuation τ sig (Elt Ideal)

variable (m : (ℓ : Loc nD τ sig) → Buf (Elt Ideal) ℓ) (ρ : Dev nD → PrngReg)

/-! ## The contents on the way -/

/-- Device `d`'s buffers at launch. -/
def val0 (d : Dev nD) : Valn := fun b => m (d, b)
/-- Before the gather. -/
def valA (d : Dev nD) : Valn := after opsC (after opsB (after opsA (val0 m d)))
abbrev tbl (d : Dev nD) : Buf (Elt Ideal) (tLoc d) := valA m d (Proc.devRef .tc main_v18)
abbrev ord (d : Dev nD) : Buf (Elt Ideal) (iLoc d) := valA m d (Proc.devRef .tc main_v22)
abbrev old (d : Dev nD) : Buf (Elt Ideal) (oLoc d) := valA m d (Proc.devRef .tc main_v23)
/-- After the gather. -/
def valB (d : Dev nD) : Valn := Function.update (valA m d) (Proc.devRef .tc main_v23) (gathered (tbl m d) (ord m d))
/-- Before the suppression. -/
def valC (d : Dev nD) : Valn := after opsD (valB m d)
variable (Tb : Dev nD → Table)
/-- After the suppression. -/
def valD (d : Dev nD) : Valn := Function.update (valC m d) (Proc.devRef .tc main_v30) (outs (Tb d))
/-- At the end. -/
def valE (d : Dev nD) : Valn := after opsE (valD m Tb d)

/-! ## The SparseCore call's three arrays out of the buffers held -/

def trio : Finset (DevRef τ sig) := {Proc.devRef .tc main_v22, Proc.devRef .tc main_v18, Proc.devRef .tc main_v23}

theorem trio_sub : trio ⊆ Pipeline.ucRefs τ sig := by
  unfold trio; decide

theorem held_trio (d : Dev nD) (V : Valn) : (held (d : Thread nD τ) (Pipeline.ucRefs τ sig) V : sProp 𝕄)
    = iprop(((iLoc d ↦{fullShare} V (Proc.devRef .tc main_v22)) ∗ (tLoc d ↦{fullShare} V (Proc.devRef .tc main_v18))
        ∗ oLoc d ↦{fullShare} V (Proc.devRef .tc main_v23)) ∗ held (d : Thread nD τ) (Pipeline.ucRefs τ sig \ trio) V) := by
  rw [held_sub_split (d : Thread nD τ) trio_sub]
  congr 1
  unfold held trio
  rw [SparseCore.bigSep_insert' (by decide), SparseCore.bigSep_insert' (by decide), bigSep_singleton]

theorem held_rest (d : Dev nD) (x : (Proc.devRef .tc main_v23 : DevRef τ sig).ty.Contents (Elt Ideal)) (V : Valn) :
    (held (d : Thread nD τ) (Pipeline.ucRefs τ sig \ trio) (Function.update V (Proc.devRef .tc main_v23) x) : sProp 𝕄)
      = held (d : Thread nD τ) (Pipeline.ucRefs τ sig \ trio) V :=
  held_congr _ fun b hb => Function.update_of_ne (fun h => (Finset.mem_sdiff.mp hb).2 (by rw [h]; unfold trio; decide)) _ _

theorem held_valB (d : Dev nD) : (held (d : Thread nD τ) (Pipeline.ucRefs τ sig) (valB m d) : sProp 𝕄)
    = iprop(((iLoc d ↦{fullShare} ord m d) ∗ (tLoc d ↦{fullShare} tbl m d)
        ∗ oLoc d ↦{fullShare} gathered (tbl m d) (ord m d)) ∗ held (d : Thread nD τ) (Pipeline.ucRefs τ sig \ trio) (valA m d)) := by
  unfold valB
  rw [held_trio, held_rest, Function.update_self, Function.update_of_ne (by decide), Function.update_of_ne (by decide)]

/-! ## The ghost state at launch -/

def u₀ : UU := (initOf KI.hsCells KI.hsToks, (initOf (Pipeline.cells (cfgs (F := Ideal)) cellOf_inj) (Pipeline.launchToks (cfgs (F := Ideal)) cellOf_inj), 1))

abbrev G (d : Dev nD) : sProp 𝕄 := iprop(Pipeline.cellsGhost (cfgs (F := Ideal)) EP 0 d ∗ Pipeline.toksInit (cfgs (F := Ideal)) EP 0 d)

theorem bigSep_emp' {I : Type} (s : Finset I) : (bigSep s fun _ => iprop(emp)) = (iprop(emp) : sProp 𝕄) := bigSep_emp_const s

theorem bigSep_G : (bigSep Finset.univ G : sProp 𝕄)
    = iprop((bigSep Finset.univ fun c : Dev nD => Pipeline.cellsGhost (cfgs (F := Ideal)) EP 0 c)
        ∗ bigSep Finset.univ fun c : Dev nD => Pipeline.toksInit (cfgs (F := Ideal)) EP 0 c) := by
  rw [← bigSep_sep']

theorem hu₀ (tb : ∀ d : Dev nD, Buf (Elt Ideal) (tLoc d)) (od : ∀ d : Dev nD, Buf (Elt Ideal) (iLoc d)) (o0 : ∀ d : Dev nD, Buf (Elt Ideal) (oLoc d)) :
    (ownU u₀ : sProp 𝕄) ⊢ |={Set.univ}=> iprop(BI.own (EH (initOf KI.hsCells KI.hsToks)) ∗ (bigSep Finset.univ G)
        ∗ bigSep Finset.univ fun thr : Thread nD τ => bigSep Finset.univ fun q : Fin 1 => (P tb od o0).x q thr) := by
  unfold u₀
  iintro Hu
  ihave H := (ownU_pair (initOf KI.hsCells KI.hsToks)
    (((initOf (Pipeline.cells (cfgs (F := Ideal)) cellOf_inj) (Pipeline.launchToks (cfgs (F := Ideal)) cellOf_inj), 1)) : UP × Counters)) $$ Hu
  icases H with ⟨HH, HR⟩
  ihave H := (own_pair_emb (embR : Emb (UP × Counters) 𝕄)
    (initOf (Pipeline.cells (cfgs (F := Ideal)) cellOf_inj) (Pipeline.launchToks (cfgs (F := Ideal)) cellOf_inj) : UP) (1 : Counters)) $$ HR
  icases H with ⟨HP, -⟩
  imod (Pipeline.fund_ghost (cfgs (F := Ideal)) EP cellOf_inj) $$ HP with ⟨Hc, Ht⟩
  imodintro
  isplitl [HH]; · iexact HH
  isplitl [Hc Ht]
  · rw [bigSep_G]
    isplitl [Hc]
    · iapply (Entails.of_eq (show (bigSep Finset.univ fun c : Dev nD => bigSep Finset.univ fun p => Pipeline.cellsGhost (cfgs (F := Ideal)) EP p c : sProp 𝕄)
        = bigSep Finset.univ fun c : Dev nD => Pipeline.cellsGhost (cfgs (F := Ideal)) EP 0 c from
        bigSep_congr fun _ _ => bigSep_univ_of_subsingleton (0 : Fin 1))); iexact Hc
    · iapply (Entails.of_eq (show (bigSep Finset.univ fun c : Dev nD => bigSep Finset.univ fun p => Pipeline.toksInit (cfgs (F := Ideal)) EP p c : sProp 𝕄)
        = bigSep Finset.univ fun c : Dev nD => Pipeline.toksInit (cfgs (F := Ideal)) EP 0 c from
        bigSep_congr fun _ _ => bigSep_univ_of_subsingleton (0 : Fin 1))); iexact Ht
  rw [show (bigSep Finset.univ fun thr : Thread nD τ => bigSep Finset.univ fun q : Fin 1 => (P tb od o0).x q thr)
      = (bigSep Finset.univ fun _ => iprop(emp) : sProp 𝕄) from
    bigSep_congr fun _ _ => bigSep_univ_of_subsingleton (0 : Fin 1), bigSep_emp']
  iempintro

/-! ## The pieces of @main -/

abbrev 𝔻 := KI.defs (nD := nD) (D (F := Ideal))

/-- A stretch of host operations. -/
theorem host_step (d : Dev nD) {β : Type} (ops : List (HloOp τ sig (Elt Ideal)))
    (hs : ops.Forall fun op => op.bufs ⊆ StableHlo.tcRefs τ sig) (hf : ops.Forall fun op => op.fresh = ∅) (V : Valn)
    (k : PUnit → Prog (TpuEff nD τ sig (Elt Ideal) (SparseCore.Sig (ΛP (F := Ideal)) 1) .tc) β) (Q : β → sProp 𝕄) :
    iprop((boundary (d : Thread nD τ) ∗ held (d : Thread nD τ) (Pipeline.ucRefs τ sig) V)
        ∗ ((boundary (d : Thread nD τ) ∗ held (d : Thread nD τ) (Pipeline.ucRefs τ sig) (after ops V))
            -∗ wp frame (wpE 𝔻 𝒱 (d : Thread nD τ) none) Set.univ (k ⟨⟩) Q))
      ⊢ wp frame (wpE 𝔻 𝒱 (d : Thread nD τ) none) Set.univ (StableHlo.seq ops >>= k) Q := by
  iintro ⟨H, Hk⟩
  iapply (StableHlo.wp_seq 𝒱 none Set.univ d (Pipeline.ucRefs τ sig) k ops
    (fun op h => Pipeline.sub_ucRefs op (List.forall_iff_forall_mem.mp hs op h)) (List.forall_iff_forall_mem.mp hf) V) $$ H
  iexact Hk

/-- The gather: the order, the table and the result handed over, the result back at the gathered rows. -/
theorem gather_step (κ : GSem nD τ sig → ℕ) (d : Dev nD) (Q : PUnit → sProp 𝕄) :
    iprop(KI.ctx EH (P (tbl m) (ord m) (old m)) κ KI.lev ∗ KI.tcSt EH d 0 ∗ held (d : Thread nD τ) (Pipeline.ucRefs τ sig) (valA m d)
        ∗ ((KI.tcSt EH d 1 ∗ held (d : Thread nD τ) (Pipeline.ucRefs τ sig) (valB m d)) -∗ Q ⟨⟩))
      ⊢ wp frame (wpE 𝔻 𝒱 (d : Thread nD τ) none) Set.univ (sc.run d 0) Q := by
  rw [held_trio, held_valB]
  iintro ⟨#Hctx, Hst, ⟨Ha, Hr⟩, Hk⟩
  iapply (KI.wp_run (D (F := Ideal)) 𝒱 (EH := EH) (P := P (tbl m) (ord m) (old m)) κ d 0) $$ [Hst Ha Hr Hk]
  isplitr; · iexact Hctx
  isplitl [Hst]; · iexact Hst
  isplitl [Ha]
  · rw [st_eq]; iexact Ha
  iintro ⟨Hst, Hdn⟩
  ihave Hdn' := (Entails.of_eq (dn_eq (tbl m) (ord m) (old m) d)) $$ Hdn
  iapply Hk
  isplitl [Hst]; · iexact Hst
  isplitl [Hdn'] <;> iassumption

/-- The suppression's region: the table's rows and columns in its two arguments. -/
def region (h28 : ∀ d, valC m d (Proc.devRef .tc main_v28) = rowsArr (Tb d)) (h29 : ∀ d, valC m d (Proc.devRef .tc main_v29) = colsArr (Tb d)) (lvl : ℕ) :=
  reg (fun c b => valC m c (Proc.devRef .tc b)) Tb lvl (fun c b => valD m Tb c (Proc.devRef .tc b)) h28 h29
      (fun c => Function.update_self _ _ _)
      (fun c b hb => Function.update_of_ne (fun h => hb (Proc.devRef_injective _ h)) _ _)

theorem region_pre (h28 : ∀ d, valC m d (Proc.devRef .tc main_v28) = rowsArr (Tb d)) (h29 : ∀ d, valC m d (Proc.devRef .tc main_v29) = colsArr (Tb d)) (lvl : ℕ) (d : Dev nD) :
    (region m Tb h28 h29 lvl).pre d = iprop(held (d : Thread nD τ) (Pipeline.ucRefs τ sig) (valC m d) ∗ idle lvl d) := by
  rw [← Pipeline.unscopedBufs_held d (valC m d)]; rfl
theorem region_post (h28 : ∀ d, valC m d (Proc.devRef .tc main_v28) = rowsArr (Tb d)) (h29 : ∀ d, valC m d (Proc.devRef .tc main_v29) = colsArr (Tb d)) (lvl : ℕ) (d : Dev nD) :
    (region m Tb h28 h29 lvl).post d = iprop(held (d : Thread nD τ) (Pipeline.ucRefs τ sig) (valD m Tb d) ∗ idle lvl d) := by
  rw [← Pipeline.unscopedBufs_held d (valD m Tb d)]; rfl

/-- The suppression's call: every buffer held, from the contents before it to the contents after. -/
theorem nms_step (h28 : ∀ d, valC m d (Proc.devRef .tc main_v28) = rowsArr (Tb d)) (h29 : ∀ d, valC m d (Proc.devRef .tc main_v29) = colsArr (Tb d))
    (κ : GSem nD τ sig → ℕ) (d : Dev nD) (lvl : ℕ) (Q : PUnit → sProp 𝕄) :
    iprop(KI.ctx EH (P (tbl m) (ord m) (old m)) κ KI.lev ∗ boundary (d : Thread nD τ) ∗ idle lvl d ∗ G d
        ∗ held (d : Thread nD τ) (Pipeline.ucRefs τ sig) (valC m d)
        ∗ ((boundary (d : Thread nD τ) ∗ idle lvl d ∗ held (d : Thread nD τ) (Pipeline.ucRefs τ sig) (valD m Tb d)) -∗ Q ⟨⟩))
      ⊢ wp frame (wpE 𝔻 𝒱 (d : Thread nD τ) none) Set.univ (Prog.lift (.customCall (SparseCore.inner (Pipeline.entry 0)) ())) Q := by
  iintro ⟨#Hctx, Hb, HO, ⟨Hc, Ht⟩, Hh, Hk⟩
  ihave Hlev := (SparseCore.Cfg.ctx_levAts κ) $$ Hctx
  iapply (KI.wp_liftProg (D (F := Ideal)) 𝒱 (d : Thread nD τ) Set.univ none (.op (.customCall (Pipeline.entry 0) ()) .ret) Q)
  iapply (Pipeline.RegionSeg.wp (pcfgs (F := Ideal)) adm
    (pdats (fun c b => valC m c (Proc.devRef .tc b)) Tb lvl) (none : HIx 1) cellOf_inj EP defs₀ 𝒱₀ KI.L KI.lev
    (region m Tb h28 h29 lvl) d none (fun _ h => nomatch h) .ret Q) $$ [Hb HO Hc Ht Hh Hk Hlev]
  rw [region_pre, region_post]
  isplitl [Hk]
  · iintro ⟨Hb, Hh, HO⟩
    rw [wp_ret]
    imodintro
    iapply Hk
    isplitl [Hb]; · iexact Hb
    isplitl [HO] <;> iassumption
  isplitl [Hb]; · iexact Hb
  isplitl [Hh HO]
  · isplitl [Hh] <;> iassumption
  isplitl [Hlev]; · iexact Hlev
  isplitl [Hc] <;> iassumption

/-! ## @main -/

abbrev FIN (d : Dev nD) : sProp 𝕄 := held (d : Thread nD τ) (Pipeline.ucRefs τ sig) (valE m Tb d)

theorem hmain (h28 : ∀ d, valC m d (Proc.devRef .tc main_v28) = rowsArr (Tb d)) (h29 : ∀ d, valC m d (Proc.devRef .tc main_v29) = colsArr (Tb d))
    (κ : GSem nD τ sig → ℕ) (d : Dev nD) :
    iprop(KI.ctx EH (P (tbl m) (ord m) (old m)) κ KI.lev ∗ KI.tcSt EH d 0 ∗ KI.tcRes m ρ d ∗ G d)
      ⊢ wp frame (wpE 𝔻 𝒱 (SparseCore.T d) none) Set.univ (main (F := Ideal) d)
          fun _ => iprop(KI.tcSt EH d 1 ∗ FIN m Tb d ∗ KI.tcEnd d) := by
  unfold SparseCore.Cfg.tcRes SparseCore.Cfg.tcEnd
  rw [main_chain]
  simp only [Pipeline.chain_cons, Pipeline.chain_nil]
  iintro ⟨#Hctx, Hst, ⟨Hb, Hub, Hts, -⟩, HG⟩
  ihave Hh := (show (unscopedBufs d (fun b => m ((SparseCore.T d).loc b)) : sProp 𝕄) ⊢ held (d : Thread nD τ) (Pipeline.ucRefs τ sig) (val0 m d) from
    Entails.of_eq (Pipeline.unscopedBufs_held d (val0 m d))) $$ Hub
  iapply (host_step d opsA opsA_sub opsA_fresh (val0 m d)) $$ [Hst Hb Hh Hts HG]
  isplitl [Hb Hh]; · isplitl [Hb] <;> iassumption
  iintro ⟨Hb, Hh⟩
  iapply (host_step d opsB opsB_sub opsB_fresh (after opsA (val0 m d))) $$ [Hst Hb Hh Hts HG]
  isplitl [Hb Hh]; · isplitl [Hb] <;> iassumption
  iintro ⟨Hb, Hh⟩
  iapply (host_step d opsC opsC_sub opsC_fresh (after opsB (after opsA (val0 m d)))) $$ [Hst Hb Hh Hts HG]
  isplitl [Hb Hh]; · isplitl [Hb] <;> iassumption
  iintro ⟨Hb, Hh⟩
  rw [wp_bind]
  iapply (gather_step m κ d) $$ [Hst Hb Hh Hts HG]
  isplitr; · iexact Hctx
  isplitl [Hst]; · iexact Hst
  isplitl [Hh]; · iexact Hh
  iintro ⟨Hst, Hh⟩
  iapply (host_step d opsD opsD_sub opsD_fresh (valB m d)) $$ [Hst Hb Hh Hts HG]
  isplitl [Hb Hh]; · isplitl [Hb] <;> iassumption
  iintro ⟨Hb, Hh⟩
  rw [wp_bind]
  unfold SparseCore.Cfg.tcSt
  rw [KI.Otc_end d (le_refl 1)]
  icases Hst with ⟨HO, Hst⟩
  iapply (nms_step m Tb h28 h29 κ d _) $$ [Hst HO Hb Hh Hts HG]
  isplitr; · iexact Hctx
  isplitl [Hb]; · iexact Hb
  isplitl [HO]; · unfold idle; iexact HO
  isplitl [HG]; · iexact HG
  isplitl [Hh]; · iexact Hh
  iintro ⟨Hb, HO, Hh⟩
  iapply (host_step d opsE opsE_sub opsE_fresh (valD m Tb d)) $$ [Hst HO Hb Hh Hts]
  isplitl [Hb Hh]; · isplitl [Hb] <;> iassumption
  iintro ⟨Hb, Hh⟩
  rw [wp_pure]
  imodintro
  isplitl [HO Hst]
  · isplitl [HO]
    · unfold idle; iexact HO
    iexact Hst
  isplitl [Hh]; · iexact Hh
  isplitl [Hb] <;> iassumption

def fq (d : Dev nD) (s' : Phys nD τ sig (Elt Ideal)) : Prop := ∀ b ∈ Pipeline.ucRefs τ sig, s'.mem.mem (d, b) = valE m Tb d b

theorem hfin (d : Dev nD) (s' : Phys nD τ sig (Elt Ideal)) : iprop(FIN m Tb d ∗ SI s') ⊢ (⌜fq m Tb d s'⌝ : sProp 𝕄) :=
  (pointsTo_read_all (Pipeline.ucRefs τ sig) (fun b => (d, b)) (valE m Tb d) s').trans sep_elim_left

/-- What the program leaves: every buffer of the TensorCore at the last contents, every counter at zero. -/
def QC : PUnit × MemSt nD τ sig (Elt Ideal) → Prop := fun r =>
  (∀ d : Dev nD, ∀ b ∈ Pipeline.ucRefs τ sig, r.2.mem (d, b) = valE m Tb d b) ∧ r.2.sem = fun _ => 0

set_option maxRecDepth 16384 in
/-- The program's run. -/
theorem run_main (hod : InRange (ord m))
    (h28 : ∀ d, valC m d (Proc.devRef .tc main_v28) = rowsArr (Tb d)) (h29 : ∀ d, valC m d (Proc.devRef .tc main_v29) = colsArr (Tb d)) :
    θ_run (Cert.KernelIdeal.defs (F := Ideal)) (Cert.KernelIdeal.threads (F := Ideal)) ⟨m, fun _ => 0, ρ⟩ (QC m Tb) :=
  SparseCore.Cfg.θ_run_sc_quiescent (K := KI) (D := D (F := Ideal)) (𝒱 := 𝒱) (EH := EH) (P := P (tbl m) (ord m) (old m)) (A := ∅) facts v₀
    (fun q hq => match q with | 0 => nomatch hq)
    (fun q _ => match q with | 0 => tileObl (tbl m) (ord m) (old m) hod)
    (fun q _ => match q with | 0 => SparseCore.Cfg.VecSplit.of_plain (vecSplit (tbl m) (ord m) (old m)))
    m ρ main G (FIN m Tb) u₀ (sep_elim_left.trans (hu₀ (tbl m) (ord m) (old m))) (hmain m ρ Tb h28 h29) (fq m Tb) (hfin m Tb) (QC m Tb) (fun _ h hz => ⟨h, hz⟩)

end Cert.Proof.KRun

end
-- ==== Proof.Order.lean ====
/-
  What both programs compute, in their own terms: the order of the boxes by falling score, the table of the boxes'
  features in that order, which of its rows greedy suppression keeps, and the array of kept boxes and scores.
-/
module

public import proofs.«01_k».proof.Proof.Payload
public import Idealize.ShloMosaic.Lib.SortFacts

@[expose] public section

noncomputable section

namespace Cert.Proof

open Cert.KernelIdeal Cert.KernelIdeal.Gen Idealize.ShloMosaic

/-- Whether position `k` sorts before position `k'`: by the comparison of the negated scores. -/
def before (s : S5000.Idx → EReal) (k k' : Fin 5000) : Bool :=
  comparator_f32_i32_d0 (F := Ideal) (Host.negf (F := Ideal) (φ := .f32) s (ix1 k), BitVec.ofNat 32 k.val)
    (Host.negf (F := Ideal) (φ := .f32) s (ix1 k'), BitVec.ofNat 32 k'.val) == 1#1

/-- The box at sorted position `j`. -/
def ordF (s : S5000.Idx → EReal) : Fin 5000 → Fin 5000 := sortedFrom (before s)

/-- Sorting a list beside its positions leaves, at each place, the position that came there. -/
theorem sort_positions {n : ℕ} (cmp : EReal × BitVec 32 → EReal × BitVec 32 → BitVec 1) (x : (⟨1, ![n]⟩ : Shape).Idx → EReal) (j : Fin n) :
    (Host.sort2 ⟨1, ![n]⟩ 0 cmp x (iotaInDim ⟨1, ![n]⟩ 32 0)).2 (ix1 j)
      = BitVec.ofNat 32 (sortedFrom (fun k k' => cmp (x (ix1 k), BitVec.ofNat 32 k.val) (x (ix1 k'), BitVec.ofNat 32 k'.val) == 1#1) j).val := by
  have e : ∀ k : Fin n, (Shape.Idx.ofFin k : (⟨1, ![n]⟩ : Shape).Idx) = ix1 k := fun k => by
    funext a
    match a with | ⟨0, _⟩ => rfl
  unfold Host.sort2
  simp [e, iotaInDim]

theorem order_apply (s : S5000.Idx → EReal) (j : Fin 5000) :
    (Host.sort2 S5000 0 (comparator_f32_i32_d0 (F := Ideal)) (Host.negf (F := Ideal) (φ := .f32) s) (iotaInDim S5000 32 0)).2 (ix1 j)
      = BitVec.ofNat 32 (ordF s j).val :=
  sort_positions _ _ j

theorem order_toNat (r : Fin 5000) : (BitVec.ofNat 32 r.val).toNat = r.val := by
  rw [BitVec.toNat_ofNat]; omega

/-- The features of box `r`: its corners, its area, its score. -/
def feat (A : S5000x4.Idx → EReal) (s : S5000.Idx → EReal) (r : Fin 5000) (f : ℕ) : EReal :=
  if h : f < 4 then A (ix2 r ⟨f, h⟩)
  else if f = 4 then (A (ix2 r 2) - A (ix2 r 0)) * (A (ix2 r 3) - A (ix2 r 1))
  else if f = 5 then s (ix1 r) else 0

/-- The table in the sorted order, and zeros after it. -/
def sortedTable (A : S5000x4.Idx → EReal) (s : S5000.Idx → EReal) : Table := fun i f =>
  if h : i < 5000 then feat A s (ordF s ⟨i, h⟩) f.val else 0

/-- Whether the box at sorted position `j` is kept. -/
def kept (A : S5000x4.Idx → EReal) (s : S5000.Idx → EReal) (j : Fin 5000) : Bool :=
  Nms.run (rel (sortedTable A s)) 5000 j.val && scored (s (ix1 (ordF s j)))

/-- The kept boxes and their scores, in the sorted order, zeros where a box is dropped. -/
def answer (A : S5000x4.Idx → EReal) (s : S5000.Idx → EReal) : S5000x5.Idx → EReal := fun x =>
  (if h : (x 1 : Fin 5).val < 4 then A (ix2 (ordF s (x 0)) ⟨(x 1 : Fin 5).val, h⟩) else s (ix1 (ordF s (x 0)))) * ind (kept A s (x 0))

theorem answer_apply (A : S5000x4.Idx → EReal) (s : S5000.Idx → EReal) (i : Fin 5000) (f : Fin 5) : answer A s (ix2 i f)
    = (if h : f.val < 4 then A (ix2 (ordF s i) ⟨f.val, h⟩) else s (ix1 (ordF s i))) * ind (kept A s i) := rfl

theorem sortedTable_corner (A : S5000x4.Idx → EReal) (s : S5000.Idx → EReal) (j : Fin 5000) (f : Fin 4) :
    sortedTable A s j.val (f.castLE (by omega)) = A (ix2 (ordF s j) f) := by
  unfold sortedTable
  rw [dif_pos j.2]
  exact dif_pos f.2

theorem sortedTable_area (A : S5000x4.Idx → EReal) (s : S5000.Idx → EReal) (j : Fin 5000) :
    sortedTable A s j.val 4 = (A (ix2 (ordF s j) 2) - A (ix2 (ordF s j) 0)) * (A (ix2 (ordF s j) 3) - A (ix2 (ordF s j) 1)) := by
  unfold sortedTable
  rw [dif_pos j.2]
  rfl

theorem sortedTable_score (A : S5000x4.Idx → EReal) (s : S5000.Idx → EReal) (j : Fin 5000) :
    sortedTable A s j.val 5 = s (ix1 (ordF s j)) := by
  unfold sortedTable
  rw [dif_pos j.2]
  rfl

/-- An array of 5000 rows of five from its entries. -/
theorem ext_answer {f g : S5000x5.Idx → EReal} (h : ∀ (i : Fin 5000) (j : Fin 5), f (ix2 i j) = g (ix2 i j)) : f = g := by
  funext x
  rw [eq_ix2 x]
  exact h _ _

end Cert.Proof

end
-- ==== Proof.KValue.lean ====
/-
  What the kernel's host code puts in its arrays: the boxes' features as the table the gather reads, the order by falling
  score as its rows' names, the gathered table as the suppression's two arguments, and the result out of the
  suppression's truth values.
-/
module

public import proofs.«01_k».proof.Proof.KRun
public import proofs.«01_k».proof.Proof.Order
public import Idealize.ShloMosaic.Lib.StableHlo.RunClose

@[expose] public section

set_option maxRecDepth 8192

noncomputable section

namespace Cert.Proof.KValue

open Cert.KernelIdeal Cert.KernelIdeal.Gen
open Cert.Proof Cert.Proof.Sc Cert.Proof.KHost Cert.Proof.KRun
open Idealize.ShloMosaic
open Idealize.ShloMosaic.TcCoe Idealize.ShloMosaic.Tactic
open Idealize.ShloMosaic.StableHlo

/-! ## The host's lists, read -/

section Tables

variable {F : FTy → Type} [FloatOps F]
/-- The table's columns beside the boxes. -/
abbrev tabA : List (HloOp τ sig (Elt F)) :=
  [ StableHlo.unary main_arg0 main_v2 ((extractStridedSlice S5000x1 ![0, 2] · slices_S5000x4_S5000x1_0_2) : (⟨S5000x4, .f32⟩ : BufTy).Contents (Elt F) → (⟨S5000x1, .f32⟩ : BufTy).Contents (Elt F)),
    StableHlo.reshape main_v2 main_v3 (rfl : (.f32 : EltTy) = .f32) shapeCasts_S5000x1_S5000,
    StableHlo.unary main_arg0 main_v4 ((extractStridedSlice S5000x1 ![0, 0] · slices_S5000x4_S5000x1_0_0) : (⟨S5000x4, .f32⟩ : BufTy).Contents (Elt F) → (⟨S5000x1, .f32⟩ : BufTy).Contents (Elt F)),
    StableHlo.reshape main_v4 main_v5 (rfl : (.f32 : EltTy) = .f32) shapeCasts_S5000x1_S5000,
    StableHlo.binary main_v3 main_v5 main_v6 (subf : (⟨S5000, .f32⟩ : BufTy).Contents (Elt F) → (⟨S5000, .f32⟩ : BufTy).Contents (Elt F) → (⟨S5000, .f32⟩ : BufTy).Contents (Elt F)),
    StableHlo.unary main_arg0 main_v7 ((extractStridedSlice S5000x1 ![0, 3] · slices_S5000x4_S5000x1_0_3) : (⟨S5000x4, .f32⟩ : BufTy).Contents (Elt F) → (⟨S5000x1, .f32⟩ : BufTy).Contents (Elt F)),
    StableHlo.reshape main_v7 main_v8 (rfl : (.f32 : EltTy) = .f32) shapeCasts_S5000x1_S5000,
    StableHlo.unary main_arg0 main_v9 ((extractStridedSlice S5000x1 ![0, 1] · slices_S5000x4_S5000x1_0_1) : (⟨S5000x4, .f32⟩ : BufTy).Contents (Elt F) → (⟨S5000x1, .f32⟩ : BufTy).Contents (Elt F)),
    StableHlo.reshape main_v9 main_v10 (rfl : (.f32 : EltTy) = .f32) shapeCasts_S5000x1_S5000,
    StableHlo.binary main_v8 main_v10 main_v11 (subf : (⟨S5000, .f32⟩ : BufTy).Contents (Elt F) → (⟨S5000, .f32⟩ : BufTy).Contents (Elt F) → (⟨S5000, .f32⟩ : BufTy).Contents (Elt F)),
    StableHlo.binary main_v6 main_v11 main_v12 (mulf : (⟨S5000, .f32⟩ : BufTy).Contents (Elt F) → (⟨S5000, .f32⟩ : BufTy).Contents (Elt F) → (⟨S5000, .f32⟩ : BufTy).Contents (Elt F)),
    StableHlo.unary main_v12 main_v13 (broadcastInDim S5000x1 ![0] bcast_S5000_S5000x1_0 : (⟨S5000, .f32⟩ : BufTy).Contents (Elt F) → (⟨S5000x1, .f32⟩ : BufTy).Contents (Elt F)),
    StableHlo.unary main_arg1 main_v14 (broadcastInDim S5000x1 ![0] bcast_S5000_S5000x1_0 : (⟨S5000, .f32⟩ : BufTy).Contents (Elt F) → (⟨S5000x1, .f32⟩ : BufTy).Contents (Elt F)),
    StableHlo.nullary main_cst (constant S_ .f32 0x00000000#32),
    StableHlo.unary main_cst main_v15 (broadcastInDim S5000x10 ![] bcast_S_S5000x10 : (⟨S_, .f32⟩ : BufTy).Contents (Elt F) → (⟨S5000x10, .f32⟩ : BufTy).Contents (Elt F)) ]
/-- The table. -/
abbrev tabB : List (HloOp τ sig (Elt F)) :=
  [ StableHlo.nary ![main_arg0, main_v13, main_v14, main_v15] main_v16 (fun u => (concatenate S5000x16 1 [⟨S5000x4, (u 0 : (⟨S5000x4, .f32⟩ : BufTy).Contents (Elt F))⟩, ⟨S5000x1, (u 1 : (⟨S5000x1, .f32⟩ : BufTy).Contents (Elt F))⟩, ⟨S5000x1, (u 2 : (⟨S5000x1, .f32⟩ : BufTy).Contents (Elt F))⟩, ⟨S5000x10, (u 3 : (⟨S5000x10, .f32⟩ : BufTy).Contents (Elt F))⟩] concatenates_S5000x4_S5000x1_S5000x1_S5000x10_S5000x16_d1 : (⟨S5000x16, .f32⟩ : BufTy).Contents (Elt F))) ]
/-- The padded table and the padded order. -/
abbrev tabC : List (HloOp τ sig (Elt F)) :=
  [ StableHlo.nullary main_cst_0 (constant S_ .f32 0x00000000#32),
    StableHlo.unary main_cst_0 main_v17 (broadcastInDim S120x16 ![] bcast_S_S120x16 : (⟨S_, .f32⟩ : BufTy).Contents (Elt F) → (⟨S120x16, .f32⟩ : BufTy).Contents (Elt F)),
    StableHlo.binary main_v16 main_v17 main_v18 ((fun a b => concatenate S5120x16 0 [⟨S5000x16, a⟩, ⟨S120x16, b⟩] concatenates_S5000x16_S120x16_S5120x16_d0) : (⟨S5000x16, .f32⟩ : BufTy).Contents (Elt F) → (⟨S120x16, .f32⟩ : BufTy).Contents (Elt F) → (⟨S5120x16, .f32⟩ : BufTy).Contents (Elt F)),
    StableHlo.nullary main_v19 (iotaInDim S120 32 0),
    StableHlo.nullary main_c (constantI S_ 32 5000#32),
    StableHlo.unary main_c main_v20 (broadcastInDim S120 ![] bcast_S_S120 : (⟨S_, .i32⟩ : BufTy).Contents (Elt F) → (⟨S120, .i32⟩ : BufTy).Contents (Elt F)),
    StableHlo.binary main_v20 main_v19 main_v21 (addi : (⟨S120, .i32⟩ : BufTy).Contents (Elt F) → (⟨S120, .i32⟩ : BufTy).Contents (Elt F) → (⟨S120, .i32⟩ : BufTy).Contents (Elt F)),
    StableHlo.binary main_v1 main_v21 main_v22 ((fun a b => concatenate S5120 0 [⟨S5000, a⟩, ⟨S120, b⟩] concatenates_S5000_S120_S5120_d0) : (⟨S5000, .i32⟩ : BufTy).Contents (Elt F) → (⟨S120, .i32⟩ : BufTy).Contents (Elt F) → (⟨S5120, .i32⟩ : BufTy).Contents (Elt F)) ]

theorem opsC_cut : (opsC : List (HloOp τ sig (Elt F))) = tabA ++ (tabB ++ tabC) := rfl

end Tables

theorem tabC_v18 (V : Valn) : after tabC V (Proc.devRef .tc main_v18)
    = concatenate S5120x16 0 [⟨S5000x16, V (Proc.devRef .tc main_v16)⟩, ⟨S120x16, broadcastInDim S120x16 ![] bcast_S_S120x16 (constant (F := Ideal) S_ .f32 0x00000000#32)⟩] concatenates_S5000x16_S120x16_S5120x16_d0 := by
  simp only [tabC]
  after_results_entrywise [cast_eq]

theorem tabC_v22 (V : Valn) : after tabC V (Proc.devRef .tc main_v22)
    = concatenate S5120 0 [⟨S5000, V (Proc.devRef .tc main_v1)⟩, ⟨S120, addi (broadcastInDim S120 ![] bcast_S_S120 (constantI S_ 32 5000#32)) (iotaInDim S120 32 0)⟩] concatenates_S5000_S120_S5120_d0 := by
  simp only [tabC]
  after_results_entrywise [cast_eq]

theorem tabB_v16 (V : Valn) : after tabB V (Proc.devRef .tc main_v16)
    = concatenate S5000x16 1 [⟨S5000x4, V (Proc.devRef .tc main_arg0)⟩, ⟨S5000x1, V (Proc.devRef .tc main_v13)⟩, ⟨S5000x1, V (Proc.devRef .tc main_v14)⟩, ⟨S5000x10, V (Proc.devRef .tc main_v15)⟩] concatenates_S5000x4_S5000x1_S5000x1_S5000x10_S5000x16_d1 := by
  simp only [tabB, after_cons, after_nil]
  rw [nary_result]
  rfl

theorem tabA_v13 (V : Valn) : after tabA V (Proc.devRef .tc main_v13)
    = broadcastInDim S5000x1 ![0] bcast_S5000_S5000x1_0 (mulf (F := Ideal) (φ := .f32)
        (subf (F := Ideal) (φ := .f32) (shapeCast S5000 (extractStridedSlice S5000x1 ![0, 2] (V (Proc.devRef .tc main_arg0)) slices_S5000x4_S5000x1_0_2) shapeCasts_S5000x1_S5000)
          (shapeCast S5000 (extractStridedSlice S5000x1 ![0, 0] (V (Proc.devRef .tc main_arg0)) slices_S5000x4_S5000x1_0_0) shapeCasts_S5000x1_S5000))
        (subf (F := Ideal) (φ := .f32) (shapeCast S5000 (extractStridedSlice S5000x1 ![0, 3] (V (Proc.devRef .tc main_arg0)) slices_S5000x4_S5000x1_0_3) shapeCasts_S5000x1_S5000)
          (shapeCast S5000 (extractStridedSlice S5000x1 ![0, 1] (V (Proc.devRef .tc main_arg0)) slices_S5000x4_S5000x1_0_1) shapeCasts_S5000x1_S5000))) := by
  simp only [tabA]
  after_results_entrywise [cast_eq]

theorem tabA_v14 (V : Valn) : after tabA V (Proc.devRef .tc main_v14)
    = broadcastInDim S5000x1 ![0] bcast_S5000_S5000x1_0 (V (Proc.devRef .tc main_arg1)) := by
  simp only [tabA]
  after_results_entrywise [cast_eq]

theorem tabA_v15 (V : Valn) : after tabA V (Proc.devRef .tc main_v15)
    = broadcastInDim S5000x10 ![] bcast_S_S5000x10 (constant (F := Ideal) S_ .f32 0x00000000#32) := by
  simp only [tabA]
  after_results_entrywise [cast_eq]

theorem tabA_arg0 (V : Valn) : after tabA V (Proc.devRef .tc main_arg0) = V (Proc.devRef .tc main_arg0) := by
  simp only [tabA]
  after_results_entrywise [cast_eq]

theorem tabAB_v1 (V : Valn) : after tabB (after tabA V) (Proc.devRef .tc main_v1) = V (Proc.devRef .tc main_v1) := by
  simp only [tabA, tabB]
  after_results_entrywise [cast_eq]

theorem opsA_v0 (V : Valn) : after opsA V (Proc.devRef .tc main_v0) = Host.negf (F := Ideal) (φ := .f32) (V (Proc.devRef .tc main_arg1)) := by
  simp only [opsA]
  after_results_entrywise [cast_eq]

theorem opsB_v1 (V : Valn) : after opsB V (Proc.devRef .tc main_v1)
    = (Host.sort2 S5000 0 (comparator_f32_i32_d0 (F := Ideal)) (V (Proc.devRef .tc main_v0)) (iotaInDim S5000 32 0)).2 := by
  simp only [opsB]
  after_results_entrywise [cast_eq]

theorem opsAB_arg0 (V : Valn) : after opsB (after opsA V) (Proc.devRef .tc main_arg0) = V (Proc.devRef .tc main_arg0) := by
  simp only [opsA, opsB]
  after_results_entrywise [cast_eq]

theorem opsAB_arg1 (V : Valn) : after opsB (after opsA V) (Proc.devRef .tc main_arg1) = V (Proc.devRef .tc main_arg1) := by
  simp only [opsA, opsB]
  after_results_entrywise [cast_eq]

theorem opsD_v28 (V : Valn) : after opsD V (Proc.devRef .tc main_v28)
    = shapeCast S10x512x8 (extractStridedSlice S5120x8 ![0, 0] (V (Proc.devRef .tc main_v23)) slices_S5120x16_S5120x8_0_0) shapeCasts_S5120x8_S10x512x8 := by
  simp only [opsD]
  after_results_entrywise [cast_eq]

theorem opsD_v29 (V : Valn) : after opsD V (Proc.devRef .tc main_v29)
    = transpose S10x8x512 [0, 2, 1] (shapeCast S10x512x8 (extractStridedSlice S5120x8 ![0, 0] (V (Proc.devRef .tc main_v23)) slices_S5120x16_S5120x8_0_0) shapeCasts_S5120x8_S10x512x8) transposes_S10x512x8_S10x8x512_0_2_1 := by
  simp only [opsD]
  after_results_entrywise [cast_eq]

theorem opsD_v24 (V : Valn) : after opsD V (Proc.devRef .tc main_v24)
    = extractStridedSlice S5000x4 ![0, 0] (V (Proc.devRef .tc main_v23)) slices_S5120x16_S5000x4_0_0 := by
  simp only [opsD]
  after_results_entrywise [cast_eq]

theorem opsD_v26 (V : Valn) : after opsD V (Proc.devRef .tc main_v26)
    = shapeCast S5000 (extractStridedSlice S5000x1 ![0, 5] (V (Proc.devRef .tc main_v23)) slices_S5120x16_S5000x1_0_5) shapeCasts_S5000x1_S5000 := by
  simp only [opsD]
  after_results_entrywise [cast_eq]

/-- The suppression's truth values, the padding dropped. -/
abbrev truths (k : S10x1x512.Idx → EReal) : S5000.Idx → EReal :=
  extractStridedSlice S5000 ![0] (shapeCast S5120 k shapeCasts_S10x1x512_S5120) slices_S5120_S5000_0

theorem opsE_v38 (V : Valn) : after opsE V (Proc.devRef .tc main_v38)
    = concatenate S5000x5 1
        [⟨S5000x4, mulf (F := Ideal) (φ := .f32) (V (Proc.devRef .tc main_v24)) (broadcastInDim S5000x4 ![0, 1] bcast_S5000x1_S5000x4_0_1 (broadcastInDim S5000x1 ![0] bcast_S5000_S5000x1_0 (truths (V (Proc.devRef .tc main_v30)))))⟩,
         ⟨S5000x1, broadcastInDim S5000x1 ![0] bcast_S5000_S5000x1_0 (mulf (F := Ideal) (φ := .f32) (V (Proc.devRef .tc main_v26)) (truths (V (Proc.devRef .tc main_v30))))⟩]
        concatenates_S5000x4_S5000x1_S5000x5_d1 := by
  simp only [opsE]
  after_results_entrywise [cast_eq]

/-! ## The arrays, entry by entry -/

theorem rows_apply (A : S5000x4.Idx → EReal) (s : S5000.Idx → EReal) (y : S5000x1.Idx → EReal) (w : S5000x10.Idx → EReal)
    (hy : ∀ i : Fin 5000, y (ix2 i 0) = (A (ix2 i 2) - A (ix2 i 0)) * (A (ix2 i 3) - A (ix2 i 1))) (hw : ∀ k, w k = 0)
    (i : Fin 5000) (f : Fin 16) :
    concatenate S5000x16 1 [⟨S5000x4, A⟩, ⟨S5000x1, y⟩, ⟨S5000x1, broadcastInDim S5000x1 ![0] bcast_S5000_S5000x1_0 s⟩, ⟨S5000x10, w⟩]
      concatenates_S5000x4_S5000x1_S5000x1_S5000x10_S5000x16_d1 (ix2 i f) = feat A s i f.val := by
  pointwise []
  unfold feat
  by_cases h4 : f.val < 4
  · rw [dif_pos h4, dif_pos h4]
  · rw [dif_neg h4, dif_neg h4]
    by_cases h5 : f.val = 4
    · rw [dif_pos (by omega), if_pos h5, ← hy i]
      exact congrArg (fun z => y (ix2 i z)) (Subsingleton.elim _ _)
    · rw [dif_neg (by omega), if_neg h5]
      by_cases h6 : f.val = 5
      · rw [dif_pos (by omega), if_pos h6]
      · rw [dif_neg (by omega), if_neg h6, hw]

theorem table_apply (A : S5000x4.Idx → EReal) (s : S5000.Idx → EReal) (x : S5000x16.Idx → EReal)
    (hx : ∀ i f, x (ix2 i f) = feat A s i f.val) (i : Fin 5120) (f : Fin 16) :
    concatenate S5120x16 0 [⟨S5000x16, x⟩, ⟨S120x16, broadcastInDim S120x16 ![] bcast_S_S120x16 (constant (F := Ideal) S_ .f32 0x00000000#32)⟩]
      concatenates_S5000x16_S120x16_S5120x16_d0 (ix2 i f) = if h : i.val < 5000 then feat A s ⟨i.val, h⟩ f.val else 0 := by
  pointwise []
  by_cases h : i.val < 5000
  · rw [dif_pos h, dif_pos h, hx]
  · rw [dif_neg h, dif_neg h]

theorem places_apply (o : S5000.Idx → BitVec 32) (i : Fin 5120) :
    concatenate S5120 0 [⟨S5000, o⟩, ⟨S120, addi (broadcastInDim S120 ![] bcast_S_S120 (constantI S_ 32 5000#32)) (iotaInDim S120 32 0)⟩]
      concatenates_S5000_S120_S5120_d0 (ix1 i) = if h : i.val < 5000 then o (ix1 ⟨i.val, h⟩) else BitVec.ofNat 32 i.val := by
  pointwise []
  by_cases h : i.val < 5000
  · rw [dif_pos h, dif_pos h]
  · rw [dif_neg h, dif_neg h]
    refine BitVec.eq_of_toNat_eq ?_
    rw [show IntOp.addi 5000#32 (BitVec.ofNat 32 (i.val - 5000)) = 5000#32 + BitVec.ofNat 32 (i.val - 5000) from rfl,
      BitVec.toNat_add, BitVec.toNat_ofNat, BitVec.toNat_ofNat, BitVec.toNat_ofNat]
    omega

theorem feats_apply (x : S5120x16.Idx → EReal) (a : Fin 10) (b : Fin 512) (c : Fin 8) :
    shapeCast S10x512x8 (extractStridedSlice S5120x8 ![0, 0] x slices_S5120x16_S5120x8_0_0) shapeCasts_S5120x8_S10x512x8 (ix3 a b c)
      = x (ix2 ⟨512 * a.val + b.val, by omega⟩ (c.castLE (by omega))) := by
  pointwise []
  congr 2
  refine Fin.ext ?_
  show a.val * 512 + b.val = 512 * a.val + b.val
  omega

theorem feats_transposed (x : S10x512x8.Idx → EReal) (a : Fin 10) (b : Fin 512) (c : Fin 8) :
    transpose S10x8x512 [0, 2, 1] x transposes_S10x512x8_S10x8x512_0_2_1 (ix3 a c b) = x (ix3 a b c) := by
  pointwise []

theorem result_apply (B : S5000x4.Idx → EReal) (r : S5000.Idx → EReal) (k : S10x1x512.Idx → EReal) (i : Fin 5000) (f : Fin 5) :
    concatenate S5000x5 1
        [⟨S5000x4, mulf (F := Ideal) (φ := .f32) B (broadcastInDim S5000x4 ![0, 1] bcast_S5000x1_S5000x4_0_1 (broadcastInDim S5000x1 ![0] bcast_S5000_S5000x1_0 (truths k)))⟩,
         ⟨S5000x1, broadcastInDim S5000x1 ![0] bcast_S5000_S5000x1_0 (mulf (F := Ideal) (φ := .f32) r (truths k))⟩]
        concatenates_S5000x4_S5000x1_S5000x5_d1 (ix2 i f)
      = (if h : f.val < 4 then B (ix2 i ⟨f.val, h⟩) else r (ix1 i)) * k (ix3 ⟨i.val / 512, by omega⟩ 0 ⟨i.val % 512, by omega⟩) := by
  pointwise []
  by_cases h : f.val < 4
  · rw [dif_pos h, dif_pos h]
  · rw [dif_neg h, dif_neg h]

/-! ## The contents on the way -/

variable (m : (ℓ : Loc nD τ sig) → Buf (Elt Ideal) ℓ)

/-- Device `d`'s boxes and scores at launch, and the table of its boxes' features in the sorted order. -/
def boxes (d : Dev nD) : S5000x4.Idx → EReal := m (d, Proc.devRef .tc main_arg0)
def scores (d : Dev nD) : S5000.Idx → EReal := m (d, Proc.devRef .tc main_arg1)
def sorted (d : Dev nD) : Table := sortedTable (boxes m d) (scores m d)

theorem valA_v1 (d : Dev nD) (j : Fin 5000) : (after opsB (after opsA (val0 m d)) (Proc.devRef .tc main_v1) : S5000.Idx → BitVec 32) (ix1 j)
    = BitVec.ofNat 32 (ordF (scores m d) j).val := by
  rw [opsB_v1, opsA_v0]
  exact order_apply (scores m d) j

theorem tbl_apply (d : Dev nD) (i : Fin 5120) (f : Fin 16) : (tbl m d : S5120x16.Idx → EReal) (ix2 i f)
    = if h : i.val < 5000 then feat (boxes m d) (scores m d) ⟨i.val, h⟩ f.val else 0 := by
  unfold tbl valA
  rw [opsC_cut, after_append, after_append, tabC_v18, tabB_v16, tabA_v13, tabA_v14, tabA_v15, tabA_arg0, opsAB_arg0, opsAB_arg1]
  refine table_apply (boxes m d) (scores m d) _ (fun i f => ?_) i f
  refine rows_apply (boxes m d) (scores m d) _ _ (fun i => ?_) (fun k => ?_) i f
  · pointwise []
    rfl
  · exact Ideal.ofBits_zero_f32

theorem ord_apply (d : Dev nD) (i : Fin 5120) : (ord m d : S5120.Idx → BitVec 32) (ix1 i)
    = if h : i.val < 5000 then BitVec.ofNat 32 (ordF (scores m d) ⟨i.val, h⟩).val else BitVec.ofNat 32 i.val := by
  unfold ord valA
  rw [opsC_cut, after_append, after_append, tabC_v22, tabAB_v1]
  refine (places_apply _ i).trans ?_
  by_cases h : i.val < 5000
  · rw [dif_pos h, dif_pos h]
    exact valA_v1 m d ⟨i.val, h⟩
  · rw [dif_neg h, dif_neg h]

theorem ord_toNat (d : Dev nD) (i : Fin 5120) : ((ord m d : S5120.Idx → BitVec 32) (ix1 i)).toNat
    = if h : i.val < 5000 then (ordF (scores m d) ⟨i.val, h⟩).val else i.val := by
  rw [ord_apply]
  by_cases h : i.val < 5000
  · rw [dif_pos h, dif_pos h, order_toNat]
  · rw [dif_neg h, dif_neg h, BitVec.toNat_ofNat]
    omega

/-- The order names rows of the table. -/
theorem ord_inRange : InRange (ord m) := by
  intro d j
  obtain ⟨i, rfl⟩ : ∃ i : Fin 5120, j = ix1 i := ⟨j 0, eq_ix1 j⟩
  have ht := ord_toNat m d i
  by_cases h : i.val < 5000
  · rw [dif_pos h] at ht; omega
  · rw [dif_neg h] at ht; omega

/-- THE GATHERED TABLE: its first eight columns are the features in the sorted order. -/
theorem gathered_apply (d : Dev nD) (i : Fin 5120) (f : Fin 16) (g : Fin 8) (hg : f.val = g.val) :
    (gathered (tbl m d) (ord m d) : S5120x16.Idx → EReal) (ix2 i f) = sorted m d i.val g := by
  have hlt : ((ord m d : S5120.Idx → BitVec 32) (ix1 i)).toNat < 5120 := ord_inRange m d _
  have e : (gathered (tbl m d) (ord m d) : S5120x16.Idx → EReal) (ix2 i f)
      = (tbl m d : S5120x16.Idx → EReal) (ix2 ⟨((ord m d : S5120.Idx → BitVec 32) (ix1 i)).toNat, hlt⟩ f) := by
    show (tbl m d : S5120x16.Idx → EReal) (at2 (Fin.ofNat 5120 ((ord m d : S5120.Idx → BitVec 32) (at1 i)).toNat) f) = _
    have e1 : (at1 i : S5120.Idx) = ix1 i := by funext a; match a with | 0 => rfl
    have e2 : ∀ r : Fin 5120, (at2 r f : S5120x16.Idx) = ix2 r f := fun r => by
      funext a; match a with | 0 => rfl | 1 => rfl
    rw [e1, e2]
    congr 2
    exact Fin.ext (Nat.mod_eq_of_lt hlt)
  rw [e, tbl_apply]
  unfold sorted sortedTable
  rw [← hg]
  have ht := ord_toNat m d i
  by_cases h : i.val < 5000
  · rw [dif_pos h]
    rw [dif_pos h] at ht
    have hl : ((ord m d : S5120.Idx → BitVec 32) (ix1 i)).toNat < 5000 := by omega
    refine (dif_pos hl).trans ?_
    exact congrArg (fun r => feat (boxes m d) (scores m d) r f.val) (Fin.ext ht)
  · rw [dif_neg h]
    rw [dif_neg h] at ht
    have hl : ¬ ((ord m d : S5120.Idx → BitVec 32) (ix1 i)).toNat < 5000 := by omega
    exact dif_neg hl

theorem valB_v23 (d : Dev nD) : valB m d (Proc.devRef .tc main_v23) = gathered (tbl m d) (ord m d) := by
  unfold valB
  exact Function.update_self ..

theorem valC_v28 (d : Dev nD) : valC m d (Proc.devRef .tc main_v28) = rowsArr (sorted m d) := by
  unfold valC
  rw [opsD_v28, valB_v23]
  funext x
  rw [eq_ix3 x]
  refine (feats_apply _ _ _ _).trans ?_
  exact gathered_apply m d _ _ _ rfl

theorem valC_v29 (d : Dev nD) : valC m d (Proc.devRef .tc main_v29) = colsArr (sorted m d) := by
  unfold valC
  rw [opsD_v29, valB_v23]
  funext x
  rw [eq_ix3 x]
  refine (feats_transposed _ _ _ _).trans ((feats_apply _ _ _ _).trans ?_)
  exact gathered_apply m d _ _ _ rfl

theorem valC_v24 (d : Dev nD) (i : Fin 5000) (f : Fin 4) : (valC m d (Proc.devRef .tc main_v24) : S5000x4.Idx → EReal) (ix2 i f)
    = boxes m d (ix2 (ordF (scores m d) i) f) := by
  unfold valC
  rw [opsD_v24, valB_v23]
  generalize hG : (gathered (tbl m d) (ord m d) : S5120x16.Idx → EReal) = G
  have e : extractStridedSlice S5000x4 ![0, 0] G slices_S5120x16_S5000x4_0_0 (ix2 i f) = G (ix2 (i.castLE (by omega)) (f.castLE (by omega))) := by
    pointwise []
    rfl
  refine e.trans ?_
  rw [← hG, gathered_apply m d _ _ (f.castLE (by omega)) rfl]
  exact sortedTable_corner _ _ i f

theorem valC_v26 (d : Dev nD) (i : Fin 5000) : (valC m d (Proc.devRef .tc main_v26) : S5000.Idx → EReal) (ix1 i)
    = scores m d (ix1 (ordF (scores m d) i)) := by
  unfold valC
  rw [opsD_v26, valB_v23]
  generalize hG : (gathered (tbl m d) (ord m d) : S5120x16.Idx → EReal) = G
  have e : shapeCast S5000 (extractStridedSlice S5000x1 ![0, 5] G slices_S5120x16_S5000x1_0_5) shapeCasts_S5000x1_S5000 (ix1 i) = G (ix2 (i.castLE (by omega)) 5) := by
    pointwise []
    rfl
  refine e.trans ?_
  rw [← hG, gathered_apply m d _ _ 5 rfl]
  exact sortedTable_score _ _ i

/-- The suppression's truth value of a box's row. -/
theorem tested_kept (d : Dev nD) (i : Fin 5000) (j : Fin 512) (hj : j.val = i.val % 512) :
    tested (sorted m d) 10 (i.val / 512) j = kept (boxes m d) (scores m d) i := by
  unfold tested kept
  rw [hj]
  have e : 512 * (i.val / 512) + i.val % 512 = i.val := Nat.div_add_mod ..
  have hlt : ¬ 10 ≤ i.val / 512 := by omega
  rw [e, decide_eq_false hlt, Bool.false_or, Nms.run_of_le (show i.val ≤ 5120 by omega), Nms.run_of_le (show i.val ≤ 5000 by omega)]
  unfold sorted
  rw [sortedTable_score]

theorem outs_apply (T : Table) (a : Fin 10) (b : Fin 512) : (outs T : S10x1x512.Idx → EReal) (ix3 a 0 b) = ind (tested T 10 a.val b) := rfl

theorem valD_v30 (d : Dev nD) : valD m (sorted m) d (Proc.devRef .tc main_v30) = outs (sorted m d) := by
  unfold valD
  exact Function.update_self ..

theorem valD_of_ne (d : Dev nD) (b : DevRef τ sig) (h : b ≠ Proc.devRef .tc main_v30) : valD m (sorted m) d b = valC m d b := by
  unfold valD
  exact Function.update_of_ne h ..

/-- THE RESULT. -/
theorem valE_v38 (d : Dev nD) : valE m (sorted m) d (Proc.devRef .tc main_v38) = answer (boxes m d) (scores m d) := by
  unfold valE
  rw [opsE_v38, valD_v30, valD_of_ne m d _ (by decide), valD_of_ne m d _ (by decide)]
  refine ext_answer fun i f => ?_
  refine (result_apply _ _ _ i f).trans ?_
  rw [answer_apply, outs_apply, tested_kept m d i ⟨i.val % 512, Nat.mod_lt _ (by omega)⟩ rfl]
  refine congrArg (fun x : EReal => x * ind (kept (boxes m d) (scores m d) i)) ?_
  by_cases h : f.val < 4
  · rw [dif_pos h, dif_pos h]
    exact valC_v24 m d i ⟨f.val, h⟩
  · rw [dif_neg h, dif_neg h]
    exact valC_v26 m d i

/-- A buffer that the program does not write. -/
theorem valE_kept (d : Dev nD) (b : Ref sig .tc) (hA : b ∉ opsA_W) (hB : b ∉ opsB_W) (hC : b ∉ opsC_W) (hD : b ∉ opsD_W) (hE : b ∉ opsE_W)
    (h23 : (Proc.devRef .tc b : DevRef τ sig) ≠ Proc.devRef .tc main_v23) (h30 : (Proc.devRef .tc b : DevRef τ sig) ≠ Proc.devRef .tc main_v30) :
    valE m (sorted m) d (Proc.devRef .tc b) = m (d, Proc.devRef .tc b) := by
  have eA : valA m d (Proc.devRef .tc b) = m (d, Proc.devRef .tc b) := by
    unfold valA
    rw [after_of_writes_sub opsC _ opsC_writes hC, after_of_writes_sub opsB _ opsB_writes hB, after_of_writes_sub opsA _ opsA_writes hA]
    rfl
  have eB : valB m d (Proc.devRef .tc b) = valA m d (Proc.devRef .tc b) := by
    unfold valB
    exact Function.update_of_ne h23 ..
  unfold valE
  rw [after_of_writes_sub opsE _ opsE_writes hE, valD_of_ne m d _ h30]
  unfold valC
  rw [after_of_writes_sub opsD _ opsD_writes hD, eB, eA]

theorem valE_arg0 (d : Dev nD) : valE m (sorted m) d (Proc.devRef .tc main_arg0) = m (d, Proc.devRef .tc main_arg0) :=
  valE_kept m d main_arg0 (by decide) (by decide) (by decide) (by decide) (by decide) (by decide) (by decide)

theorem valE_arg1 (d : Dev nD) : valE m (sorted m) d (Proc.devRef .tc main_arg1) = m (d, Proc.devRef .tc main_arg1) :=
  valE_kept m d main_arg1 (by decide) (by decide) (by decide) (by decide) (by decide) (by decide) (by decide)

/-- THE KERNEL'S RUN: it ends, its semaphores zero, its arguments as they were, its result the answer. -/
theorem kernel_run (ρ : Dev nD → PrngReg) : θ_run Cert.KernelIdeal.defs Cert.KernelIdeal.threads ⟨m, fun _ => 0, ρ⟩
    (fun r => (∀ c : Dev nD, r.2.mem (c, Proc.devRef .tc main_v38) = answer (boxes m c) (scores m c)
        ∧ r.2.mem (c, Proc.devRef .tc main_arg0) = m (c, Proc.devRef .tc main_arg0) ∧ r.2.mem (c, Proc.devRef .tc main_arg1) = m (c, Proc.devRef .tc main_arg1))
      ∧ r.2.sem = fun _ => 0) := by
  refine (θ_run Cert.KernelIdeal.defs _ _).mono (fun r h => ⟨fun c => ⟨?_, ?_, ?_⟩, h.2⟩)
    (run_main m ρ (sorted m) (ord_inRange m) (valC_v28 m) (valC_v29 m))
  · rw [h.1 c _ (by decide), valE_v38]
  · rw [h.1 c _ (by decide), valE_arg0]
  · rw [h.1 c _ (by decide), valE_arg1]

end Cert.Proof.KValue

end
-- ==== Proof.RefHost.lean ====
/-
  What the reference's host code computes before its loop and after it: the order, the boxes and scores taken in that
  order, the overlap of every two boxes, and the result out of the truth values the loop leaves.
-/
module

public import proofs.«01_k».proof.Proof.Gen.ReferenceIdeal.Run
public import proofs.«01_k».proof.Proof.Order
public import Idealize.ShloMosaic.Lib.StableHlo.RunClose
public import Idealize.ShloMosaic.Lib.ReduceAll
public import Idealize.ShloMosaic.Lib.DynamicIndex
public import Idealize.ShloMosaic.Lib.Routing.Ops
public import Idealize.ShloMosaic.Lib.Routing.OpsSet

@[expose] public section

set_option maxRecDepth 8192

noncomputable section

namespace Cert.Proof.Ref

open Cert.ReferenceIdeal Cert.ReferenceIdeal.Gen
open Cert.Proof
open Idealize.ShloMosaic
open Idealize.ShloMosaic.TcCoe Idealize.ShloMosaic.Tactic
open Idealize.ShloMosaic.StableHlo

abbrev Valn := Valuation τ sig (Elt Ideal)

/-! ## The order -/

theorem ops0_v0 (V : Valn) : after hostOps0 V (Proc.devRef .tc main_v0) = Host.negf (F := Ideal) (φ := .f32) (V (Proc.devRef .tc main_arg1)) := by
  simp only [hostOps0]
  after_results_entrywise [cast_eq]

theorem ops1_v1 (V : Valn) : after hostOps0_1 V (Proc.devRef .tc main_v1)
    = (Host.sort2 S5000 0 (comparator_f32_i32_d0 (F := Ideal)) (V (Proc.devRef .tc main_v0)) (iotaInDim S5000 32 0)).2 := by
  simp only [hostOps0_1]
  after_results_entrywise [cast_eq]

theorem comparator_same : (Cert.ReferenceIdeal.comparator_f32_i32_d0 (F := Ideal)) = Cert.KernelIdeal.comparator_f32_i32_d0 (F := Ideal) := rfl

/-! ## The take in that order -/

/-- The places read: a negative one counted from the end. -/
abbrev places (o : S5000.Idx → BitVec 32) : S5000x1.Idx → BitVec 32 :=
  broadcastInDim S5000x1 ![0] bcast_S5000_S5000x1_0
    (select (cmpi .slt o (broadcastInDim S5000 ![] bcast_S_S5000 (constantI S_ 32 0#32)))
      (addi o (broadcastInDim S5000 ![] bcast_S_S5000 (constantI S_ 32 5000#32))) o)

/-- Whether each place lies in the array. -/
abbrev inside (o : S5000.Idx → BitVec 32) : S5000.Idx → BitVec 1 :=
  Host.reduce IntOp.andi
    (andi (cmpi .sge (places o) (broadcastInDim S5000x1 ![] bcast_S_S5000x1 (constantI S_ 32 0#32)))
      (cmpi .sle (places o) (broadcastInDim S5000x1 ![0, 1] bcast_S1x1_S5000x1_0_1 (broadcastInDim S1x1 ![1] bcast_S1_S1x1_1 (constantI S1 32 4999#32)))))
    (constantI S_ 1 1#1) reducesTo_S5000x1_S5000_d1 h_S_

theorem ops2_v2 (V : Valn) : after hostOps0_2 V (Proc.devRef .tc main_v2)
    = select (broadcastInDim S5000x4 ![0] bcast_S5000_S5000x4_0 (inside (V (Proc.devRef .tc main_v1))))
        (Host.gather gather_S5000x4_S5000x1_S5000x4_1_0_n_n_0_1_14 (V (Proc.devRef .tc main_arg0)) (places (V (Proc.devRef .tc main_v1))))
        (broadcastInDim S5000x4 ![] bcast_S_S5000x4 (constant (F := Ideal) S_ .f32 0x7FC00000#32)) := by
  simp only [hostOps0_2]
  after_results_entrywise [cast_eq]

theorem ops3_v3 (V : Valn) : after hostOps0_3 V (Proc.devRef .tc main_v3)
    = select (inside (V (Proc.devRef .tc main_v1)))
        (Host.gather gather_S5000_S5000x1_S5000_n_0_n_n_0_1_1 (V (Proc.devRef .tc main_arg1)) (places (V (Proc.devRef .tc main_v1))))
        (broadcastInDim S5000 ![] bcast_S_S5000 (constant (F := Ideal) S_ .f32 0x7FC00000#32)) := by
  simp only [hostOps0_3]
  after_results_entrywise [cast_eq]

section Take

variable {o : S5000.Idx → BitVec 32} {r : Fin 5000 → Fin 5000} (ho : ∀ j : Fin 5000, o (ix1 j) = BitVec.ofNat 32 (r j).val)
include ho

theorem select_place (j : Fin 5000) :
    Scalar.select (IntOp.cmpi .slt (o (ix1 j)) 0#32) (IntOp.addi (o (ix1 j)) 5000#32) (o (ix1 j)) = BitVec.ofNat 32 (r j).val := by
  have hl : (r j).val < 5000 := (r j).isLt
  have hn : (o (ix1 j)).slt 0#32 = false := by
    rw [ho, BitVec.slt, toInt_ofNat_of_lt (by omega)]
    simp
  have h : IntOp.cmpi .slt (o (ix1 j)) 0#32 = 0#1 := by
    show BitVec.ofBool ((o (ix1 j)).slt 0#32) = 0#1
    rw [hn]; rfl
  rw [h, ho]
  rfl

theorem places_apply (j : Fin 5000) (z : Fin 1) : places o (ix2 j z) = BitVec.ofNat 32 (r j).val := by
  have e : places o (ix2 j z) = Scalar.select (IntOp.cmpi .slt (o (ix1 j)) 0#32) (IntOp.addi (o (ix1 j)) 5000#32) (o (ix1 j)) := by
    pointwise []
  rw [e, select_place ho]

theorem inside_apply (j : Fin 5000) : inside o (ix1 j) = 1#1 := by
  refine Host.reduce_andi_one _ _ _ _ _ rfl fun i => ?_
  obtain ⟨a, b, rfl⟩ : ∃ (a : Fin 5000) (b : Fin 1), i = ix2 a b := ⟨i 0, i 1, eq_ix2 i⟩
  pointwise []
  rw [select_place ho]
  have hl : (r a).val < 5000 := (r a).isLt
  have h1 : (0#32).sle (BitVec.ofNat 32 (r a).val) = true := by
    rw [BitVec.sle, toInt_ofNat_of_lt (k := (r a).val) (by omega)]
    simp
  have h2 : (BitVec.ofNat 32 (r a).val).sle 4999#32 = true := by
    rw [BitVec.sle, toInt_ofNat_of_lt (by omega), show (4999#32).toInt = ((4999 : ℕ) : ℤ) from toInt_ofNat_of_lt (by omega)]
    simp
    omega
  show BitVec.ofBool ((0#32).sle (BitVec.ofNat 32 (r a).val)) &&& BitVec.ofBool ((BitVec.ofNat 32 (r a).val).sle 4999#32) = 1#1
  rw [h1, h2]
  rfl

theorem take_boxes (x y : S5000x4.Idx → EReal) (j : Fin 5000) (f : Fin 4) :
    select (broadcastInDim S5000x4 ![0] bcast_S5000_S5000x4_0 (inside o)) (Host.gather gather_S5000x4_S5000x1_S5000x4_1_0_n_n_0_1_14 x (places o)) y (ix2 j f)
      = x (ix2 (r j) f) := by
  have e : select (broadcastInDim S5000x4 ![0] bcast_S5000_S5000x4_0 (inside o)) (Host.gather gather_S5000x4_S5000x1_S5000x4_1_0_n_n_0_1_14 x (places o)) y (ix2 j f)
      = Scalar.select (inside o (ix1 j)) (Host.gather gather_S5000x4_S5000x1_S5000x4_1_0_n_n_0_1_14 x (places o) (ix2 j f)) (y (ix2 j f)) := by
    pointwise []
  have hg : Host.gather gather_S5000x4_S5000x1_S5000x4_1_0_n_n_0_1_14 x (places o) (ix2 j f) = x (ix2 (r j) f) :=
    Routing.gather_row gather_S5000x4_S5000x1_S5000x4_1_0_n_n_0_1_14 rfl rfl rfl rfl rfl x (places o) j f (r j) (places_apply ho j 0) (by decide)
  rw [e, inside_apply ho, hg]
  rfl

theorem take_scores (x y : S5000.Idx → EReal) (j : Fin 5000) :
    select (inside o) (Host.gather gather_S5000_S5000x1_S5000_n_0_n_n_0_1_1 x (places o)) y (ix1 j) = x (ix1 (r j)) := by
  have e : select (inside o) (Host.gather gather_S5000_S5000x1_S5000_n_0_n_n_0_1_1 x (places o)) y (ix1 j)
      = Scalar.select (inside o (ix1 j)) (Host.gather gather_S5000_S5000x1_S5000_n_0_n_n_0_1_1 x (places o) (ix1 j)) (y (ix1 j)) := rfl
  have hg : Host.gather gather_S5000_S5000x1_S5000_n_0_n_n_0_1_1 x (places o) (ix1 j) = x (ix1 (r j)) :=
    Routing.gather_take1 gather_S5000_S5000x1_S5000_n_0_n_n_0_1_1 rfl rfl rfl rfl x (places o) j (r j) (places_apply ho j 0) (by decide)
  rw [e, inside_apply ho, hg]
  rfl

end Take

/-! ## The overlaps -/

abbrev area (b : S5000x4.Idx → EReal) : S5000.Idx → EReal :=
  mulf (F := Ideal) (φ := .f32)
    (subf (F := Ideal) (φ := .f32) (shapeCast S5000 (extractStridedSlice S5000x1 ![0, 2] b slices_S5000x4_S5000x1_0_2) shapeCasts_S5000x1_S5000)
      (shapeCast S5000 (extractStridedSlice S5000x1 ![0, 0] b slices_S5000x4_S5000x1_0_0) shapeCasts_S5000x1_S5000))
    (subf (F := Ideal) (φ := .f32) (shapeCast S5000 (extractStridedSlice S5000x1 ![0, 3] b slices_S5000x4_S5000x1_0_3) shapeCasts_S5000x1_S5000)
      (shapeCast S5000 (extractStridedSlice S5000x1 ![0, 1] b slices_S5000x4_S5000x1_0_1) shapeCasts_S5000x1_S5000))

theorem ops4_v14 (V : Valn) : after hostOps0_4 V (Proc.devRef .tc main_v14) = area (V (Proc.devRef .tc main_v2)) := by
  simp only [hostOps0_4]
  after_results_entrywise [cast_eq]

theorem ops4_v25 (V : Valn) : after hostOps0_4 V (Proc.devRef .tc main_v25) = area (V (Proc.devRef .tc main_v2)) := by
  simp only [hostOps0_4]
  after_results_entrywise [cast_eq]

/-- A pair of each box's columns, down the rows and along the columns of a square. -/
abbrev down (b : S5000x2.Idx → EReal) : S5000x5000x2.Idx → EReal :=
  broadcastInDim S5000x5000x2 ![0, 1, 2] bcast_S5000x1x2_S5000x5000x2_0_1_2 (broadcastInDim S5000x1x2 ![0, 2] bcast_S5000x2_S5000x1x2_0_2 b)
abbrev along (b : S5000x2.Idx → EReal) : S5000x5000x2.Idx → EReal :=
  broadcastInDim S5000x5000x2 ![0, 1, 2] bcast_S1x5000x2_S5000x5000x2_0_1_2 (broadcastInDim S1x5000x2 ![1, 2] bcast_S5000x2_S1x5000x2_1_2 b)

/-- The two sides of each two boxes' overlap. -/
abbrev sides (b : S5000x4.Idx → EReal) : S5000x5000x2.Idx → EReal :=
  subf (F := Ideal) (φ := .f32)
    (minimumf (F := Ideal) (φ := .f32) (down (extractStridedSlice S5000x2 ![0, 2] b slices_S5000x4_S5000x2_0_2)) (along (extractStridedSlice S5000x2 ![0, 2] b slices_S5000x4_S5000x2_0_2)))
    (maximumf (F := Ideal) (φ := .f32) (down (extractStridedSlice S5000x2 ![0, 0] b slices_S5000x4_S5000x2_0_0)) (along (extractStridedSlice S5000x2 ![0, 0] b slices_S5000x4_S5000x2_0_0)))

theorem ops4_v40 (V : Valn) : after hostOps0_4 V (Proc.devRef .tc main_v40) = sides (V (Proc.devRef .tc main_v2)) := by
  simp only [hostOps0_4]
  after_results_entrywise [cast_eq]

theorem ops4_cst (V : Valn) : after hostOps0_4 V (Proc.devRef .tc main_cst) = constant (F := Ideal) S_ .f32 0x00000000#32 := by
  simp only [hostOps0_4]
  after_results_entrywise [cast_eq]

theorem ops5_v41 (V : Valn) : after hostOps0_5 V (Proc.devRef .tc main_v41)
    = maximumf (F := Ideal) (φ := .f32) (broadcastInDim S5000x5000x2 ![] bcast_S_S5000x5000x2 (id (V (Proc.devRef .tc main_cst)))) (V (Proc.devRef .tc main_v40)) := by
  simp only [hostOps0_5]
  after_results_entrywise [cast_eq]

/-- The area of each two boxes' overlap, from its two sides. -/
abbrev inter (w : S5000x5000x2.Idx → EReal) : S5000x5000.Idx → EReal :=
  mulf (F := Ideal) (φ := .f32)
    (shapeCast S5000x5000 (extractStridedSlice S5000x5000x1 ![0, 0, 0] w slices_S5000x5000x2_S5000x5000x1_0_0_0) shapeCasts_S5000x5000x1_S5000x5000)
    (shapeCast S5000x5000 (extractStridedSlice S5000x5000x1 ![0, 0, 1] w slices_S5000x5000x2_S5000x5000x1_0_0_1) shapeCasts_S5000x5000x1_S5000x5000)

theorem ops6_v58_0 (V : Valn) : after hostOps0_6 V (Proc.devRef .tc main_v58_0)
    = id (Host.divf (F := Ideal) (φ := .f32) (inter (V (Proc.devRef .tc main_v41)))
        (addf (F := Ideal) (φ := .f32) (subf (F := Ideal) (φ := .f32)
            (addf (F := Ideal) (φ := .f32)
              (broadcastInDim S5000x5000 ![0, 1] bcast_S5000x1_S5000x5000_0_1 (broadcastInDim S5000x1 ![0] bcast_S5000_S5000x1_0 (V (Proc.devRef .tc main_v14))))
              (broadcastInDim S5000x5000 ![0, 1] bcast_S1x5000_S5000x5000_0_1 (broadcastInDim S1x5000 ![1] bcast_S5000_S1x5000_1 (V (Proc.devRef .tc main_v25)))))
            (inter (V (Proc.devRef .tc main_v41))))
          (broadcastInDim S5000x5000 ![] bcast_S_S5000x5000 (constant (F := Ideal) S_ .f32 0x358637BD#32)))) := by
  simp only [hostOps0_6]
  after_results_entrywise [cast_eq]

theorem ops6_v58_1 (V : Valn) : after hostOps0_6 V (Proc.devRef .tc main_v58_1) = iotaInDim S5000 32 0 := by
  simp only [hostOps0_6]
  after_results_entrywise [cast_eq]

theorem ops6_v58_3 (V : Valn) : after hostOps0_6 V (Proc.devRef .tc main_v58_3) = constantI S_ 32 0#32 := by
  simp only [hostOps0_6]
  after_results_entrywise [cast_eq]

theorem ops6_v58_4 (V : Valn) : after hostOps0_6 V (Proc.devRef .tc main_v58_4) = broadcastInDim S5000 ![] bcast_S_S5000 (constantI S_ 1 1#1) := by
  simp only [hostOps0_6]
  after_results_entrywise [cast_eq]

theorem area_apply (b : S5000x4.Idx → EReal) (i : Fin 5000) : area b (ix1 i) = (b (ix2 i 2) - b (ix2 i 0)) * (b (ix2 i 3) - b (ix2 i 1)) := by
  pointwise []

theorem clipped_apply (b : S5000x4.Idx → EReal) (i j : Fin 5000) (k : Fin 2) :
    maximumf (F := Ideal) (φ := .f32) (broadcastInDim S5000x5000x2 ![] bcast_S_S5000x5000x2 (constant (F := Ideal) S_ .f32 0x00000000#32)) (sides b) (ix3 i j k)
      = max (min (b (ix2 i ⟨k.val + 2, by omega⟩)) (b (ix2 j ⟨k.val + 2, by omega⟩)) - max (b (ix2 i ⟨k.val, by omega⟩)) (b (ix2 j ⟨k.val, by omega⟩))) 0 := by
  pointwise []
  rw [max_comm]
  simp only [Nat.add_comm 2]

theorem overlap_apply (w : S5000x5000x2.Idx → EReal) (a : S5000.Idx → EReal) (i j : Fin 5000) :
    Host.divf (F := Ideal) (φ := .f32) (inter w)
        (addf (F := Ideal) (φ := .f32) (subf (F := Ideal) (φ := .f32)
            (addf (F := Ideal) (φ := .f32)
              (broadcastInDim S5000x5000 ![0, 1] bcast_S5000x1_S5000x5000_0_1 (broadcastInDim S5000x1 ![0] bcast_S5000_S5000x1_0 a))
              (broadcastInDim S5000x5000 ![0, 1] bcast_S1x5000_S5000x5000_0_1 (broadcastInDim S1x5000 ![1] bcast_S5000_S1x5000_1 a)))
            (inter w))
          (broadcastInDim S5000x5000 ![] bcast_S_S5000x5000 (constant (F := Ideal) S_ .f32 0x358637BD#32))) (ix2 i j)
      = Ideal.div (w (ix3 i j 0) * w (ix3 i j 1)) (a (ix1 i) + a (ix1 j) - w (ix3 i j 0) * w (ix3 i j 1) + Ideal.ofBits FTy.f32 897988541#32) := by
  pointwise []

/-! ## The result -/

theorem ops7_v68 (V : Valn) : after hostOps0_7 V (Proc.devRef .tc main_v68)
    = (fun k : S5000.Idx → EReal => concatenate S5000x5 1
        [⟨S5000x4, mulf (F := Ideal) (φ := .f32) (V (Proc.devRef .tc main_v2)) (broadcastInDim S5000x4 ![0, 1] bcast_S5000x1_S5000x4_0_1 (broadcastInDim S5000x1 ![0] bcast_S5000_S5000x1_0 k))⟩,
         ⟨S5000x1, broadcastInDim S5000x1 ![0] bcast_S5000_S5000x1_0 (mulf (F := Ideal) (φ := .f32) (V (Proc.devRef .tc main_v3)) k)⟩]
        concatenates_S5000x4_S5000x1_S5000x5_d1)
      (uitofp (F := Ideal) .f32 (andi (V (Proc.devRef .tc main_v58_4))
        (cmpf (F := Ideal) (φ := .f32) .ogt (V (Proc.devRef .tc main_v3)) (broadcastInDim S5000 ![] bcast_S_S5000 (constant (F := Ideal) S_ .f32 0x3E99999A#32))))) := by
  simp only [hostOps0_7]
  after_results_entrywise [cast_eq]

theorem result_apply (B : S5000x4.Idx → EReal) (r k : S5000.Idx → EReal) (i : Fin 5000) (f : Fin 5) :
    concatenate S5000x5 1
        [⟨S5000x4, mulf (F := Ideal) (φ := .f32) B (broadcastInDim S5000x4 ![0, 1] bcast_S5000x1_S5000x4_0_1 (broadcastInDim S5000x1 ![0] bcast_S5000_S5000x1_0 k))⟩,
         ⟨S5000x1, broadcastInDim S5000x1 ![0] bcast_S5000_S5000x1_0 (mulf (F := Ideal) (φ := .f32) r k)⟩]
        concatenates_S5000x4_S5000x1_S5000x5_d1 (ix2 i f)
      = (if h : f.val < 4 then B (ix2 i ⟨f.val, h⟩) else r (ix1 i)) * k (ix1 i) := by
  pointwise []
  by_cases h : f.val < 4
  · rw [dif_pos h, dif_pos h]
  · rw [dif_neg h, dif_neg h]

end Cert.Proof.Ref

end
-- ==== Proof.RefLoop.lean ====
/-
  The reference's loop: its `k`-th trip makes one step of the suppression, at position `k`.
-/
module

public import proofs.«01_k».proof.Proof.RefHost
public import proofs.«01_k».proof.Proof.Nms

@[expose] public section

set_option maxRecDepth 8192

noncomputable section

namespace Cert.Proof.Ref

open Cert.ReferenceIdeal Cert.ReferenceIdeal.Gen Cert.ReferenceIdeal.Value
open Cert.Proof
open Idealize.ShloMosaic
open Idealize.ShloMosaic.TcCoe Idealize.ShloMosaic.Tactic
open Idealize.ShloMosaic.StableHlo

/-! ## The two slices of a trip -/

/-- Row `k` of the square, at column `j`. -/
theorem slice_row (q : S5000x5000.Idx → EReal) (k : ℕ) (hk : k < 5000) (st : Fin 2 → Int) (h0 : st 0 = (k : Int)) (h1 : st 1 = 0) (j : Fin 5000) :
    shapeCast S5000 (Host.dynamicSlice S1x5000 q st sliceFits_S5000x5000_S1x5000) shapeCasts_S1x5000_S5000 (ix1 j) = q (ix2 ⟨k, hk⟩ j) := by
  have hoff : S5000x5000.Slices ![k, 0] S1x5000 := ⟨rfl, fun a => by
    match a with
    | 0 => show k + 1 ≤ 5000; omega
    | 1 => show 0 + 5000 ≤ 5000; omega⟩
  rw [Host.dynamicSlice_eq_extractStridedSlice S1x5000 q st ![k, 0] sliceFits_S5000x5000_S1x5000 hoff (fun a => by
    match a with
    | 0 => exact h0
    | 1 => exact h1)]
  pointwise []

/-- Entry `k` of the mask. -/
theorem slice_bit (w : S5000.Idx → BitVec 1) (k : ℕ) (hk : k < 5000) (st : Fin 1 → Int) (h0 : st 0 = (k : Int)) (u : S_.Idx) :
    shapeCast S_ (Host.dynamicSlice S1 w st sliceFits_S5000_S1) shapeCasts_S1_S_ u = w (ix1 ⟨k, hk⟩) := by
  have hoff : S5000.Slices ![k] S1 := ⟨rfl, fun a => by
    match a with
    | 0 => show k + 1 ≤ 5000; omega⟩
  rw [Host.dynamicSlice_eq_extractStridedSlice S1 w st ![k] sliceFits_S5000_S1 hoff (fun a => by
    match a with
    | 0 => exact h0)]
  pointwise []

/-! ## One trip -/

/-- The mask after a trip, of the mask before it, the overlaps, the positions and the trip's number. -/
def stepMask (w : S5000.Idx → BitVec 1) (q : S5000x5000.Idx → EReal) (p : S5000.Idx → BitVec 32) (n : S_.Idx → BitVec 32) : S5000.Idx → BitVec 1 :=
  andi w (noti (andi (andi
    (broadcastInDim S5000 ![] bcast_S_S5000 (shapeCast S_ (Host.dynamicSlice S1 w
      (fun k => (((![select (cmpi .slt n (constantI S_ 32 0#32)) (addi n (constantI S_ 32 5000#32)) n] : Fin 1 → (S_.Idx → BitVec 32))) k (Shape.Idx.first h_S_)).toInt)
      sliceFits_S5000_S1) shapeCasts_S1_S_))
    (cmpf (F := Ideal) (φ := .f32) .ogt (shapeCast S5000 (Host.dynamicSlice S1x5000 q
      (fun k => (((![select (cmpi .slt n (constantI S_ 32 0#32)) (addi n (constantI S_ 32 5000#32)) n,
        select (cmpi .slt (constantI S_ 32 0#32) (constantI S_ 32 0#32)) (addi (constantI S_ 32 0#32) (constantI S_ 32 5000#32)) (constantI S_ 32 0#32)] : Fin 2 → (S_.Idx → BitVec 32))) k (Shape.Idx.first h_S_)).toInt)
      sliceFits_S5000x5000_S1x5000) shapeCasts_S1x5000_S5000) (broadcastInDim S5000 ![] bcast_S_S5000 (constant (F := Ideal) S_ .f32 0x3ECCCCCD#32))))
    (cmpi .sgt p (broadcastInDim S5000 ![] bcast_S_S5000 n))))

theorem step_eq (V : Valn) : step_main_v58_4 V
    = stepMask (V (Proc.devRef .tc main_v58_4)) (V (Proc.devRef .tc main_v58_0)) (V (Proc.devRef .tc main_v58_1)) (V (Proc.devRef .tc main_v58_3)) := rfl

theorem bits_step (a b c d : Bool) :
    BitVec.ofBool a &&& ~~~((BitVec.ofBool b &&& BitVec.ofBool c) &&& BitVec.ofBool d) = BitVec.ofBool (a && !(b && c && d)) := by
  cases a <;> cases b <;> cases c <;> cases d <;> rfl

/-- Whether two boxes overlap too much, of the square of quotients. -/
def mark (q : S5000x5000.Idx → EReal) (i j : ℕ) : Bool :=
  if h : i < 5000 ∧ j < 5000 then decide (Ideal.ofBits FTy.f32 1053609165#32 < q (ix2 ⟨i, h.1⟩ ⟨j, h.2⟩)) else false

theorem stepMask_apply (w : S5000.Idx → BitVec 1) (q : S5000x5000.Idx → EReal) (K : ℕ → Bool) (k : ℕ) (hk : k < 5000)
    (hw : ∀ j : Fin 5000, w (ix1 j) = BitVec.ofBool (K j.val)) (j : Fin 5000) :
    stepMask w q (iotaInDim S5000 32 0) (constantI S_ 32 (BitVec.ofNat 32 k)) (ix1 j) = BitVec.ofBool (Nms.step (mark q) K k j.val) := by
  have e1 := slice_bit w k hk (fun a => (((![select (cmpi .slt (constantI S_ 32 (BitVec.ofNat 32 k)) (constantI S_ 32 0#32)) (addi (constantI S_ 32 (BitVec.ofNat 32 k)) (constantI S_ 32 5000#32)) (constantI S_ 32 (BitVec.ofNat 32 k))] : Fin 1 → (S_.Idx → BitVec 32))) a (Shape.Idx.first h_S_)).toInt)
    (toInt_wrap_ofNat k (by omega))
  have e2 := slice_row q k hk (fun a => (((![select (cmpi .slt (constantI S_ 32 (BitVec.ofNat 32 k)) (constantI S_ 32 0#32)) (addi (constantI S_ 32 (BitVec.ofNat 32 k)) (constantI S_ 32 5000#32)) (constantI S_ 32 (BitVec.ofNat 32 k)),
        select (cmpi .slt (constantI S_ 32 0#32) (constantI S_ 32 0#32)) (addi (constantI S_ 32 0#32) (constantI S_ 32 5000#32)) (constantI S_ 32 0#32)] : Fin 2 → (S_.Idx → BitVec 32))) a (Shape.Idx.first h_S_)).toInt)
    (toInt_wrap_ofNat k (by omega)) (toInt_wrap_ofNat (s := S_) 0 (by omega) (d := constantI S_ 32 5000#32) (i := Shape.Idx.first h_S_)) j
  have e : stepMask w q (iotaInDim S5000 32 0) (constantI S_ 32 (BitVec.ofNat 32 k)) (ix1 j)
      = w (ix1 j) &&& ~~~((w (ix1 ⟨k, hk⟩) &&& BitVec.ofBool (decide (Ideal.ofBits FTy.f32 1053609165#32 < q (ix2 ⟨k, hk⟩ j))))
          &&& BitVec.ofBool ((BitVec.ofNat 32 k).slt (BitVec.ofNat 32 j.val))) := by
    rw [← e2, ← e1 (Shape.Idx.first h_S_)]
    rfl
  have hs : (BitVec.ofNat 32 k).slt (BitVec.ofNat 32 j.val) = decide (k < j.val) := by
    rw [BitVec.slt, toInt_ofNat_of_lt (k := k) (by omega), toInt_ofNat_of_lt (k := j.val) (by omega)]
    simp
  rw [e, hw, hw, hs, bits_step]
  unfold Nms.step mark
  rw [dif_pos ⟨hk, j.isLt⟩]

/-! ## All the trips -/

theorem trips (V : Valn) (q : S5000x5000.Idx → EReal) (h0 : V (Proc.devRef .tc main_v58_0) = q)
    (h1 : V (Proc.devRef .tc main_v58_1) = iotaInDim S5000 32 0) (h3 : V (Proc.devRef .tc main_v58_3) = constantI S_ 32 (BitVec.ofNat 32 0))
    (h4 : ∀ j : Fin 5000, V (Proc.devRef .tc main_v58_4) (ix1 j) = BitVec.ofBool true) :
    ∀ k : ℕ, k ≤ 5000 → STEP^[k] V (Proc.devRef .tc main_v58_0) = q ∧ STEP^[k] V (Proc.devRef .tc main_v58_1) = iotaInDim S5000 32 0
      ∧ STEP^[k] V (Proc.devRef .tc main_v58_3) = constantI S_ 32 (BitVec.ofNat 32 k)
      ∧ ∀ j : Fin 5000, STEP^[k] V (Proc.devRef .tc main_v58_4) (ix1 j) = BitVec.ofBool (Nms.run (mark q) k j.val) := by
  intro k
  induction k with
  | zero => exact fun _ => ⟨h0, h1, h3, h4⟩
  | succ k ih =>
    intro hk
    obtain ⟨i0, i1, i3, i4⟩ := ih (by omega)
    rw [Function.iterate_succ_apply', STEP_main_v58_0, STEP_main_v58_1, STEP_main_v58_3, STEP_main_v58_4]
    refine ⟨i0, i1, ?_, fun j => ?_⟩
    · show id (addi (STEP^[k] V (Proc.devRef .tc main_v58_3)) (constantI S_ 32 1#32)) = _
      rw [i3]
      funext u
      show BitVec.ofNat 32 k + 1#32 = BitVec.ofNat 32 (k + 1)
      apply BitVec.eq_of_toNat_eq
      rw [BitVec.toNat_add, BitVec.toNat_ofNat, BitVec.toNat_ofNat, BitVec.toNat_ofNat]
      omega
    · rw [step_eq, i0, i1, i3]
      exact stepMask_apply _ q _ k (by omega) i4 j

end Cert.Proof.Ref

end
-- ==== Proof.RefValue.lean ====
/-
  The reference's whole run: its arguments end unchanged, its result is the kept boxes and scores in the sorted order,
  and it leaves no semaphore raised (it has none).
-/
module

public import proofs.«01_k».proof.Proof.RefLoop
public import Idealize.ShloMosaic.Lib.Quiescent

@[expose] public section

set_option maxRecDepth 8192

noncomputable section

namespace Cert.Proof.Ref

open Cert.ReferenceIdeal Cert.ReferenceIdeal.Gen Cert.ReferenceIdeal.Value
open Cert.Proof
open Idealize.ShloMosaic
open Idealize.ShloMosaic.TcCoe Idealize.ShloMosaic.Tactic
open Idealize.ShloMosaic.StableHlo
open Idealize.SL.Sem

variable (m : (ℓ : Loc nD τ sig) → Buf (Elt Ideal) ℓ) (ρ : Dev nD → PrngReg)

/-- The two arguments at the start. -/
abbrev boxes (d : Dev nD) : S5000x4.Idx → EReal := m ((d.tc : Thread nD τ).loc main_arg0)
abbrev scores (d : Dev nD) : S5000.Idx → EReal := m ((d.tc : Thread nD τ).loc main_arg1)

/-! ## Before the loop -/

abbrev At1 (d : Dev nD) : Valn := after hostOps0_1 (after hostOps0 (launchContents m d))
abbrev At3 (d : Dev nD) : Valn := after hostOps0_3 (after hostOps0_2 (At1 m d))
abbrev At5 (d : Dev nD) : Valn := after hostOps0_5 (after hostOps0_4 (At3 m d))

theorem entry_eq (d : Dev nD) : entryContents preI m d = after hostOps0_6 (At5 m d) := by
  simp only [entryContents, afterL_cons, afterL_nil]

theorem keep1 (d : Dev nD) (r : Ref sig .tc) (h : r ∉ hostOps0_W ++ hostOps0_1_W) :
    At1 m d (Proc.devRef .tc r) = launchContents m d (Proc.devRef .tc r) := by
  rw [List.mem_append, not_or] at h
  exact (after_of_writes_sub hostOps0_1 _ hostOps0_1_writes h.2).trans (after_of_writes_sub hostOps0 _ hostOps0_writes h.1)

theorem keep6 (d : Dev nD) (r : Ref sig .tc) (h : r ∉ hostOps0_4_W ++ (hostOps0_5_W ++ hostOps0_6_W)) :
    entryContents preI m d (Proc.devRef .tc r) = At3 m d (Proc.devRef .tc r) := by
  rw [List.mem_append, List.mem_append, not_or, not_or] at h
  rw [entry_eq]
  exact (after_of_writes_sub hostOps0_6 _ hostOps0_6_writes h.2.2).trans
    ((after_of_writes_sub hostOps0_5 _ hostOps0_5_writes h.2.1).trans (after_of_writes_sub hostOps0_4 _ hostOps0_4_writes h.1))

/-- The boxes and the scores in the sorted order, as the reference holds them. -/
abbrev taken (d : Dev nD) : S5000x4.Idx → EReal := At3 m d (Proc.devRef .tc main_v2)
abbrev takenScores (d : Dev nD) : S5000.Idx → EReal := At3 m d (Proc.devRef .tc main_v3)

theorem order1 (d : Dev nD) (j : Fin 5000) : At1 m d (Proc.devRef .tc main_v1) (ix1 j) = BitVec.ofNat 32 (ordF (scores m d) j).val := by
  have e : At1 m d (Proc.devRef .tc main_v1) = (Host.sort2 S5000 0 (comparator_f32_i32_d0 (F := Ideal)) (Host.negf (F := Ideal) (φ := .f32) (scores m d)) (iotaInDim S5000 32 0)).2 := by
    refine (ops1_v1 _).trans ?_
    rw [ops0_v0]
  rw [e]
  exact order_apply (scores m d) j

theorem boxes3 (d : Dev nD) (j : Fin 5000) (f : Fin 4) : taken m d (ix2 j f) = boxes m d (ix2 (ordF (scores m d) j) f) := by
  have e : taken m d = after hostOps0_2 (At1 m d) (Proc.devRef .tc main_v2) :=
    after_of_writes_sub hostOps0_3 _ hostOps0_3_writes (by decide +kernel)
  have e0 : At1 m d (Proc.devRef .tc main_arg0) = boxes m d := keep1 m d main_arg0 (by decide +kernel)
  rw [e, ops2_v2, e0]
  exact take_boxes (order1 m d) _ _ j f

theorem scores3 (d : Dev nD) (j : Fin 5000) : takenScores m d (ix1 j) = scores m d (ix1 (ordF (scores m d) j)) := by
  have e1 : after hostOps0_2 (At1 m d) (Proc.devRef .tc main_v1) = At1 m d (Proc.devRef .tc main_v1) :=
    after_of_writes_sub hostOps0_2 _ hostOps0_2_writes (by decide +kernel)
  have e0 : after hostOps0_2 (At1 m d) (Proc.devRef .tc main_arg1) = scores m d :=
    (after_of_writes_sub hostOps0_2 _ hostOps0_2_writes (by decide +kernel)).trans (keep1 m d main_arg1 (by decide +kernel))
  have e : takenScores m d = _ := ops3_v3 (after hostOps0_2 (At1 m d))
  rw [e, e1, e0]
  exact take_scores (order1 m d) _ _ j

/-- The square of quotients. -/
abbrev quot (d : Dev nD) : S5000x5000.Idx → EReal := entryContents preI m d (Proc.devRef .tc main_v58_0)

theorem quot_apply (d : Dev nD) (i j : Fin 5000) : quot m d (ix2 i j)
    = (fun (b : S5000x4.Idx → EReal) => Ideal.div
        (max (min (b (ix2 i 2)) (b (ix2 j 2)) - max (b (ix2 i 0)) (b (ix2 j 0))) 0 * max (min (b (ix2 i 3)) (b (ix2 j 3)) - max (b (ix2 i 1)) (b (ix2 j 1))) 0)
        ((b (ix2 i 2) - b (ix2 i 0)) * (b (ix2 i 3) - b (ix2 i 1)) + (b (ix2 j 2) - b (ix2 j 0)) * (b (ix2 j 3) - b (ix2 j 1))
          - max (min (b (ix2 i 2)) (b (ix2 j 2)) - max (b (ix2 i 0)) (b (ix2 j 0))) 0 * max (min (b (ix2 i 3)) (b (ix2 j 3)) - max (b (ix2 i 1)) (b (ix2 j 1))) 0
          + Ideal.ofBits FTy.f32 897988541#32)) (taken m d) := by
  have e41 : At5 m d (Proc.devRef .tc main_v41) = maximumf (F := Ideal) (φ := .f32) (broadcastInDim S5000x5000x2 ![] bcast_S_S5000x5000x2 (constant (F := Ideal) S_ .f32 0x00000000#32)) (sides (taken m d)) := by
    refine (ops5_v41 _).trans ?_
    rw [ops4_cst, ops4_v40]
    rfl
  have e14 : At5 m d (Proc.devRef .tc main_v14) = area (taken m d) :=
    (after_of_writes_sub hostOps0_5 _ hostOps0_5_writes (by decide +kernel)).trans (ops4_v14 _)
  have e25 : At5 m d (Proc.devRef .tc main_v25) = area (taken m d) :=
    (after_of_writes_sub hostOps0_5 _ hostOps0_5_writes (by decide +kernel)).trans (ops4_v25 _)
  have e : quot m d = _ := (congrFun (entry_eq m d) _).trans (ops6_v58_0 (At5 m d))
  rw [e, e14, e25, id, overlap_apply, e41, clipped_apply, clipped_apply, area_apply, area_apply]
  rfl

theorem mark_eq (d : Dev nD) (i j : ℕ) (hi : i < 5000) (hj : j < 5000) :
    mark (quot m d) i j = rel (sortedTable (boxes m d) (scores m d)) i j := by
  have c : ∀ (a : Fin 5000) (f : Fin 4), taken m d (ix2 a f) = sortedTable (boxes m d) (scores m d) a.val (f.castLE (by omega)) :=
    fun a f => (boxes3 m d a f).trans (sortedTable_corner _ _ a f).symm
  have ar : ∀ a : Fin 5000, (taken m d (ix2 a 2) - taken m d (ix2 a 0)) * (taken m d (ix2 a 3) - taken m d (ix2 a 1))
      = sortedTable (boxes m d) (scores m d) a.val 4 := fun a => by
    rw [boxes3, boxes3, boxes3, boxes3, sortedTable_area]
  unfold mark
  rw [dif_pos ⟨hi, hj⟩, quot_apply]
  beta_reduce
  rw [ar, ar, c, c, c, c, c, c, c, c]
  rfl

/-! ## The loop -/

/-- The mask the loop leaves. -/
abbrev maskEnd (d : Dev nD) : S5000.Idx → BitVec 1 := atK m 5000 d (Proc.devRef .tc main_v58_4)

theorem mask_end (d : Dev nD) (j : Fin 5000) : maskEnd m d (ix1 j)
    = BitVec.ofBool (Nms.run (rel (sortedTable (boxes m d) (scores m d))) 5000 j.val) := by
  have h := (trips (entryContents preI m d) (quot m d) rfl ((congrFun (entry_eq m d) _).trans (ops6_v58_1 _)) ((congrFun (entry_eq m d) _).trans (ops6_v58_3 _))
    (fun j => congrFun ((congrFun (entry_eq m d) _).trans (ops6_v58_4 _)) (ix1 j)) 5000 le_rfl).2.2.2 j
  have e : maskEnd m d = STEP^[5000] (entryContents preI m d) (Proc.devRef .tc main_v58_4) := atK_agree m d 5000 main_v58_4 (by decide)
  rw [e, h, Nms.run_congr (N := 5000) (fun i j hij hj => mark_eq m d i j (by omega) hj) 5000 j.val j.isLt]

theorem keep_trip (d : Dev nD) (r : Ref sig .tc) (h : r ∉ condOps_W ++ while0Ops0_W) :
    ∀ k : ℕ, atK m k d (Proc.devRef .tc r) = entryContents preI m d (Proc.devRef .tc r)
  | 0 => rfl
  | k + 1 => by
    rw [List.mem_append, not_or] at h
    have e : atK m (k + 1) d = after while0Ops0 (after condOps (atK m k d)) := rfl
    rw [e]
    exact (after_of_writes_sub while0Ops0 _ while0Ops0_writes h.2).trans
      ((after_of_writes_sub condOps _ condOps_writes h.1).trans (keep_trip d r (by rw [List.mem_append, not_or]; exact h) k))

/-! ## After the loop -/

abbrev hostOps0_7_W : List (Ref sig .tc) := [main_cst_3, main_v59, main_v60, main_v61, main_v62, main_v63, main_v64, main_v65, main_v66, main_v67, main_v68]

theorem hostOps0_7_writes : (hostOps0_7 : List (HloOp τ sig (Elt Ideal))).Forall fun op => op.writes ⊆ (hostOps0_7_W.map (Proc.devRef (τ := τ) .tc)).toFinset :=
  StableHlo.forall_writes_sub_of_map rfl

theorem final_eq (d : Dev nD) : finalContents condOps preI bodyI postI 5000 m d = after hostOps0_7 (after condOps (atK m 5000 d)) := rfl

theorem keep_cond (V : Valn) (r : Ref sig .tc) (h : r ∉ condOps_W) : after condOps V (Proc.devRef .tc r) = V (Proc.devRef .tc r) :=
  after_of_writes_sub condOps _ condOps_writes h

theorem final_arg (d : Dev nD) (r : Ref sig .tc) (h7 : r ∉ hostOps0_7_W) (hl : r ∉ condOps_W ++ while0Ops0_W) (h6 : r ∉ hostOps0_4_W ++ (hostOps0_5_W ++ hostOps0_6_W))
    (h3 : r ∉ hostOps0_3_W) (h2 : r ∉ hostOps0_2_W) (h1 : r ∉ hostOps0_W ++ hostOps0_1_W) :
    finalContents condOps preI bodyI postI 5000 m d (Proc.devRef .tc r) = m ((d.tc : Thread nD τ).loc r) := by
  rw [final_eq]
  exact (after_of_writes_sub hostOps0_7 _ hostOps0_7_writes h7).trans ((keep_cond _ r (fun h => hl (List.mem_append_left _ h))).trans
    ((keep_trip m d r hl 5000).trans ((keep6 m d r h6).trans ((after_of_writes_sub hostOps0_3 _ hostOps0_3_writes h3).trans
      ((after_of_writes_sub hostOps0_2 _ hostOps0_2_writes h2).trans (keep1 m d r h1))))))

theorem bit_value (a b : Bool) : FloatOps.uitofp (F := Ideal) (φ := .f32) (BitVec.ofBool a &&& BitVec.ofBool b) = ind (a && b) := by
  show ((BitVec.toNat (BitVec.ofBool a &&& BitVec.ofBool b) : ℝ) : EReal) = ind (a && b)
  cases a <;> cases b <;> simp [ind]

theorem final_result (d : Dev nD) : finalContents condOps preI bodyI postI 5000 m d (Proc.devRef .tc main_v68) = answer (boxes m d) (scores m d) := by
  have e2 : after condOps (atK m 5000 d) (Proc.devRef .tc main_v2) = taken m d :=
    (keep_cond _ main_v2 (by decide +kernel)).trans ((keep_trip m d main_v2 (by decide +kernel) 5000).trans (keep6 m d main_v2 (by decide +kernel)))
  have e3 : after condOps (atK m 5000 d) (Proc.devRef .tc main_v3) = takenScores m d :=
    (keep_cond _ main_v3 (by decide +kernel)).trans ((keep_trip m d main_v3 (by decide +kernel) 5000).trans (keep6 m d main_v3 (by decide +kernel)))
  have e4 : after condOps (atK m 5000 d) (Proc.devRef .tc main_v58_4) = maskEnd m d := keep_cond _ main_v58_4 (by decide +kernel)
  refine ext_answer fun i f => ?_
  rw [final_eq, ops7_v68, e2, e3, e4]
  beta_reduce
  rw [result_apply, answer_apply]
  have hk : uitofp (F := Ideal) .f32 (andi (maskEnd m d)
        (cmpf (F := Ideal) (φ := .f32) .ogt (takenScores m d) (broadcastInDim S5000 ![] bcast_S_S5000 (constant (F := Ideal) S_ .f32 0x3E99999A#32)))) (ix1 i)
      = ind (kept (boxes m d) (scores m d) i) := by
    have hc : uitofp (F := Ideal) .f32 (andi (maskEnd m d)
        (cmpf (F := Ideal) (φ := .f32) .ogt (takenScores m d) (broadcastInDim S5000 ![] bcast_S_S5000 (constant (F := Ideal) S_ .f32 0x3E99999A#32)))) (ix1 i)
        = FloatOps.uitofp (F := Ideal) (φ := .f32) (maskEnd m d (ix1 i) &&& BitVec.ofBool (scored (takenScores m d (ix1 i)))) := rfl
    rw [hc, mask_end, scores3, bit_value]
    rfl
  rw [hk, scores3]
  by_cases h : f.val < 4
  · rw [dif_pos h, dif_pos h, boxes3]
  · rw [dif_neg h, dif_neg h]

/-- The reference runs, ends with the kept boxes and scores, its arguments unchanged and no semaphore raised. -/
theorem ref_run : θ_run (defs (F := Ideal)) (onTc (τ := τ) (main (F := Ideal))) ⟨m, fun _ => 0, ρ⟩ (fun r =>
    (∀ c : Dev nD, r.2.mem ((c.tc : Thread nD τ).loc main_v68) = answer (boxes m c) (scores m c)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine (θ_run defs _ _).mono (fun r h => ⟨fun c => ⟨?_, ?_, ?_⟩, sem_eq_zero_of_no_sems rfl r.2⟩) (run_fold (F := Ideal) m ρ)
  · exact (h c main_v68 rfl).trans (final_result m c)
  · exact (h c main_arg0 rfl).trans (final_arg m c main_arg0 (by decide +kernel) (by decide +kernel) (by decide +kernel) (by decide +kernel) (by decide +kernel) (by decide +kernel))
  · exact (h c main_arg1 rfl).trans (final_arg m c main_arg1 (by decide +kernel) (by decide +kernel) (by decide +kernel) (by decide +kernel) (by decide +kernel) (by decide +kernel))

end Cert.Proof.Ref

end
-- ==== Proof.lean ====
/-
  The claim: the kernel and the reference, both over the extended reals, run to an end at which their arguments are
  unchanged and every semaphore is zero, and from equal arguments they end with equal results. Either result is `answer`
  of the boxes and the scores: the kept boxes beside their scores, in the order of falling score.
-/
module

public import proofs.«01_k».proof.Proof.Gen.ReferenceIdeal.Run
public import proofs.«01_k».proof.Defs
public import proofs.«01_k».proof.Proof.KValue
public import proofs.«01_k».proof.Proof.RefValue

@[expose] public section

noncomputable section

namespace Cert.Proof

open Idealize.ShloMosaic Idealize.ShloMosaic.TcCoe Idealize.SL.Sem

/-- The kernel runs, its arguments end unchanged, every semaphore ends at zero. -/
theorem frame_kernel : Cert.quiescent_KernelIdeal := fun m g _ =>
  (θ_run Cert.KernelIdeal.defs _ _).mono (fun _ h => ⟨fun c => (h.1 c).2, h.2⟩) (KValue.kernel_run m g)

/-- The reference runs, its arguments end unchanged, every semaphore ends at zero. -/
theorem frame_reference : Cert.quiescent_ReferenceIdeal := fun m g _ =>
  (θ_run Cert.ReferenceIdeal.defs _ _).mono (fun _ h => ⟨fun c => (h.1 c).2, h.2⟩) (Ref.ref_run m g)

/-- From equal arguments the two end with equal results. -/
theorem values_equal : Cert.algebraic_KernelIdeal_ReferenceIdeal := fun m g m' g' _ hm =>
  ⟨fun c => answer (KValue.boxes m c) (KValue.scores m c),
    (θ_run Cert.KernelIdeal.defs _ _).mono (fun _ h => h.1) (KValue.kernel_run m g),
    (θ_run Cert.ReferenceIdeal.defs _ _).mono (fun _ h c => by
      refine ⟨(h.1 c).1.trans ?_, (h.1 c).2⟩
      have h0 : Ref.boxes m' c = KValue.boxes m c := (hm c).1
      have h1 : Ref.scores m' c = KValue.scores m c := (hm c).2
      rw [h0, h1]) (Ref.ref_run m' g')⟩

theorem claim : Cert.Claim := ⟨Cert.KernelIdeal.Gen.facts, Cert.ReferenceIdeal.Gen.facts, frame_kernel, frame_reference, values_equal⟩

end Cert.Proof

end
